-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x256x4096 : Shape := ⟨3, ![2, 256, 4096]⟩
abbrev S2x4096x256 : Shape := ⟨3, ![2, 4096, 256]⟩
abbrev S1024x2048 : Shape := ⟨2, ![1024, 2048]⟩
abbrev S4x1024x512 : Shape := ⟨3, ![4, 1024, 512]⟩
abbrev S2x1024x512 : Shape := ⟨3, ![2, 1024, 512]⟩
abbrev S8x128 : Shape := ⟨2, ![8, 128]⟩
abbrev S4x8x128 : Shape := ⟨3, ![4, 8, 128]⟩
abbrev S4 : Shape := ⟨1, ![4]⟩
abbrev S2 : Shape := ⟨1, ![2]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4096x256 : Shape := ⟨3, ![1, 4096, 256]⟩
abbrev S4096x256 : Shape := ⟨2, ![4096, 256]⟩
abbrev S1024x256 : Shape := ⟨2, ![1024, 256]⟩
abbrev S1x1024x256 : Shape := ⟨3, ![1, 1024, 256]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S1024x512 : Shape := ⟨2, ![1024, 512]⟩
abbrev S1x1024x512 : Shape := ⟨3, ![1, 1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S2x256x4096, .f32⟩
  | .local _ .vmem, ⟨1, _⟩ => ⟨S2x4096x256, .f32⟩
  | .local _ .vmem, ⟨2, _⟩ => ⟨S1024x4096, .bf16⟩
  | .local _ .vmem, ⟨3, _⟩ => ⟨S2x4096x256, .bf16⟩
  | .local _ .vmem, ⟨4, _⟩ => ⟨S1024x2048, .f32⟩
  | .local _ .vmem, ⟨5, _⟩ => ⟨S4x1024x512, .i8⟩
  | .local _ .vmem, ⟨6, _⟩ => ⟨S4x1024x512, .i8⟩
  | .local _ .vmem, ⟨7, _⟩ => ⟨S2x1024x512, .f32⟩
  | .local _ .vmem, ⟨8, _⟩ => ⟨S8x128, .f32⟩
  | .local _ .vmem, ⟨9, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_272 : BitVec 32 := 1#32
  let v307 : BitVec 32 := Scalar.addi v2 c1_i32_272
  let c4_i32_273 : BitVec 32 := 4#32
  let c0_i32_274 : BitVec 32 := 0#32
  let v308 : BitVec 1 := Scalar.cmpi .eq c4_i32_273 c0_i32_274
  let c1_i32_275 : BitVec 32 := 1#32
  let v309 : BitVec 32 := Scalar.select v308 c1_i32_275 c4_i32_273
  let v310 : BitVec 32 := Scalar.remsi v307 v309
  let c0_i32_277 : BitVec 32 := 0#32
  let v312 : BitVec 1 := Scalar.cmpi .slt v310 c0_i32_277
  let c0_i32_278 : BitVec 32 := 0#32
  let v313 : BitVec 1 := Scalar.cmpi .slt v309 c0_i32_278
  let v314 : BitVec 1 := Scalar.xori v312 v313
  let c0_i32_276 : BitVec 32 := 0#32
  let v311 : BitVec 1 := Scalar.cmpi .ne v310 c0_i32_276
  let v315 : BitVec 1 := Scalar.andi v314 v311
  let v316 : BitVec 32 := Scalar.addi v310 v309
  let v317 : BitVec 32 := Scalar.select v315 v316 v310
  let c1_i32_280 : BitVec 32 := 1#32
  let v318 : BitVec 32 := Scalar.muli v317 c1_i32_280
  let v319 : BitVec 32 := Scalar.addi c0_i32_281 v318
  v319.toNat
def k0_dev2 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_282 : BitVec 32 := 2#32
  let v320 : BitVec 32 := Scalar.addi v2 c2_i32_282
  let c4_i32_283 : BitVec 32 := 4#32
  let c0_i32_284 : BitVec 32 := 0#32
  let v321 : BitVec 1 := Scalar.cmpi .eq c4_i32_283 c0_i32_284
  let c1_i32_285 : BitVec 32 := 1#32
  let v322 : BitVec 32 := Scalar.select v321 c1_i32_285 c4_i32_283
  let v323 : BitVec 32 := Scalar.remsi v320 v322
  let c0_i32_287 : BitVec 32 := 0#32
  let v325 : BitVec 1 := Scalar.cmpi .slt v323 c0_i32_287
  let c0_i32_288 : BitVec 32 := 0#32
  let v326 : BitVec 1 := Scalar.cmpi .slt v322 c0_i32_288
  let v327 : BitVec 1 := Scalar.xori v325 v326
  let c0_i32_286 : BitVec 32 := 0#32
  let v324 : BitVec 1 := Scalar.cmpi .ne v323 c0_i32_286
  let v328 : BitVec 1 := Scalar.andi v327 v324
  let v329 : BitVec 32 := Scalar.addi v323 v322
  let v330 : BitVec 32 := Scalar.select v328 v329 v323
  let c1_i32_290 : BitVec 32 := 1#32
  let v331 : BitVec 32 := Scalar.muli v330 c1_i32_290
  let v332 : BitVec 32 := Scalar.addi c0_i32_291 v331
  v332.toNat
def k0_dev3 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_292 : BitVec 32 := 3#32
  let v333 : BitVec 32 := Scalar.addi v2 c3_i32_292
  let c4_i32_293 : BitVec 32 := 4#32
  let c0_i32_294 : BitVec 32 := 0#32
  let v334 : BitVec 1 := Scalar.cmpi .eq c4_i32_293 c0_i32_294
  let c1_i32_295 : BitVec 32 := 1#32
  let v335 : BitVec 32 := Scalar.select v334 c1_i32_295 c4_i32_293
  let v336 : BitVec 32 := Scalar.remsi v333 v335
  let c0_i32_297 : BitVec 32 := 0#32
  let v338 : BitVec 1 := Scalar.cmpi .slt v336 c0_i32_297
  let c0_i32_298 : BitVec 32 := 0#32
  let v339 : BitVec 1 := Scalar.cmpi .slt v335 c0_i32_298
  let v340 : BitVec 1 := Scalar.xori v338 v339
  let c0_i32_296 : BitVec 32 := 0#32
  let v337 : BitVec 1 := Scalar.cmpi .ne v336 c0_i32_296
  let v341 : BitVec 1 := Scalar.andi v340 v337
  let v342 : BitVec 32 := Scalar.addi v336 v335
  let v343 : BitVec 32 := Scalar.select v341 v342 v336
  let c1_i32_300 : BitVec 32 := 1#32
  let v344 : BitVec 32 := Scalar.muli v343 c1_i32_300
  let v345 : BitVec 32 := Scalar.addi c0_i32_301 v344
  v345.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v351 : Index := Scalar.indexCast v2
  let c0_307 : Index := 0#32
  let c0_308 : Index := 0#32
  ![v351.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_319 : BitVec 32 := 0#32
  let c0_i32_320 : BitVec 32 := 0#32
  ![v2.toNat, 0, 0]
def k0_dev4 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_309 : BitVec 32 := 1#32
  let v355 : BitVec 32 := Scalar.addi v2 c1_i32_309
  let c4_i32_310 : BitVec 32 := 4#32
  let c0_i32_311 : BitVec 32 := 0#32
  let v356 : BitVec 1 := Scalar.cmpi .eq c4_i32_310 c0_i32_311
  let c1_i32_312 : BitVec 32 := 1#32
  let v357 : BitVec 32 := Scalar.select v356 c1_i32_312 c4_i32_310
  let v358 : BitVec 32 := Scalar.remsi v355 v357
  let c0_i32_314 : BitVec 32 := 0#32
  let v360 : BitVec 1 := Scalar.cmpi .slt v358 c0_i32_314
  let c0_i32_315 : BitVec 32 := 0#32
  let v361 : BitVec 1 := Scalar.cmpi .slt v357 c0_i32_315
  let v362 : BitVec 1 := Scalar.xori v360 v361
  let c0_i32_313 : BitVec 32 := 0#32
  let v359 : BitVec 1 := Scalar.cmpi .ne v358 c0_i32_313
  let v363 : BitVec 1 := Scalar.andi v362 v359
  let v364 : BitVec 32 := Scalar.addi v358 v357
  let v365 : BitVec 32 := Scalar.select v363 v364 v358
  let c1_i32_317 : BitVec 32 := 1#32
  let v366 : BitVec 32 := Scalar.muli v365 c1_i32_317
  let v367 : BitVec 32 := Scalar.addi c0_i32_318 v366
  v367.toNat
def k0_dev5 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_321 : BitVec 32 := 2#32
  let v374 : BitVec 32 := Scalar.addi v2 c2_i32_321
  let c4_i32_322 : BitVec 32 := 4#32
  let c0_i32_323 : BitVec 32 := 0#32
  let v375 : BitVec 1 := Scalar.cmpi .eq c4_i32_322 c0_i32_323
  let c1_i32_324 : BitVec 32 := 1#32
  let v376 : BitVec 32 := Scalar.select v375 c1_i32_324 c4_i32_322
  let v377 : BitVec 32 := Scalar.remsi v374 v376
  let c0_i32_326 : BitVec 32 := 0#32
  let v379 : BitVec 1 := Scalar.cmpi .slt v377 c0_i32_326
  let c0_i32_327 : BitVec 32 := 0#32
  let v380 : BitVec 1 := Scalar.cmpi .slt v376 c0_i32_327
  let v381 : BitVec 1 := Scalar.xori v379 v380
  let c0_i32_325 : BitVec 32 := 0#32
  let v378 : BitVec 1 := Scalar.cmpi .ne v377 c0_i32_325
  let v382 : BitVec 1 := Scalar.andi v381 v378
  let v383 : BitVec 32 := Scalar.addi v377 v376
  let v384 : BitVec 32 := Scalar.select v382 v383 v377
  let c1_i32_329 : BitVec 32 := 1#32
  let v385 : BitVec 32 := Scalar.muli v384 c1_i32_329
  let v386 : BitVec 32 := Scalar.addi c0_i32_330 v385
  v386.toNat
def k0_dev6 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_333 : BitVec 32 := 3#32
  let v393 : BitVec 32 := Scalar.addi v2 c3_i32_333
  let c4_i32_334 : BitVec 32 := 4#32
  let c0_i32_335 : BitVec 32 := 0#32
  let v394 : BitVec 1 := Scalar.cmpi .eq c4_i32_334 c0_i32_335
  let c1_i32_336 : BitVec 32 := 1#32
  let v395 : BitVec 32 := Scalar.select v394 c1_i32_336 c4_i32_334
  let v396 : BitVec 32 := Scalar.remsi v393 v395
  let c0_i32_338 : BitVec 32 := 0#32
  let v398 : BitVec 1 := Scalar.cmpi .slt v396 c0_i32_338
  let c0_i32_339 : BitVec 32 := 0#32
  let v399 : BitVec 1 := Scalar.cmpi .slt v395 c0_i32_339
  let v400 : BitVec 1 := Scalar.xori v398 v399
  let c0_i32_337 : BitVec 32 := 0#32
  let v397 : BitVec 1 := Scalar.cmpi .ne v396 c0_i32_337
  let v401 : BitVec 1 := Scalar.andi v400 v397
  let v402 : BitVec 32 := Scalar.addi v396 v395
  let v403 : BitVec 32 := Scalar.select v401 v402 v396
  let c1_i32_341 : BitVec 32 := 1#32
  let v404 : BitVec 32 := Scalar.muli v403 c1_i32_341
  let v405 : BitVec 32 := Scalar.addi c0_i32_342 v404
  v405.toNat
def k0_off4 (d0 : Dev nD) (c1_i32_345 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v412 : BitVec 32 := Scalar.addi v2 c1_i32_345
  let c4_i32_346 : BitVec 32 := 4#32
  let c0_i32_347 : BitVec 32 := 0#32
  let v413 : BitVec 1 := Scalar.cmpi .eq c4_i32_346 c0_i32_347
  let c1_i32_348 : BitVec 32 := 1#32
  let v414 : BitVec 32 := Scalar.select v413 c1_i32_348 c4_i32_346
  let v415 : BitVec 32 := Scalar.remsi v412 v414
  let c0_i32_350 : BitVec 32 := 0#32
  let v417 : BitVec 1 := Scalar.cmpi .slt v415 c0_i32_350
  let c0_i32_351 : BitVec 32 := 0#32
  let v418 : BitVec 1 := Scalar.cmpi .slt v414 c0_i32_351
  let v419 : BitVec 1 := Scalar.xori v417 v418
  let c0_i32_349 : BitVec 32 := 0#32
  let v416 : BitVec 1 := Scalar.cmpi .ne v415 c0_i32_349
  let v420 : BitVec 1 := Scalar.andi v419 v416
  let v421 : BitVec 32 := Scalar.addi v415 v414
  let v422 : BitVec 32 := Scalar.select v420 v421 v415
  ![v422.toNat]
def k0_off5 (d0 : Dev nD) (c1_i32_345 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v412 : BitVec 32 := Scalar.addi v2 c1_i32_345
  let c4_i32_346 : BitVec 32 := 4#32
  let c0_i32_347 : BitVec 32 := 0#32
  let v413 : BitVec 1 := Scalar.cmpi .eq c4_i32_346 c0_i32_347
  let c1_i32_348 : BitVec 32 := 1#32
  let v414 : BitVec 32 := Scalar.select v413 c1_i32_348 c4_i32_346
  let v415 : BitVec 32 := Scalar.remsi v412 v414
  let c0_i32_350 : BitVec 32 := 0#32
  let v417 : BitVec 1 := Scalar.cmpi .slt v415 c0_i32_350
  let c0_i32_351 : BitVec 32 := 0#32
  let v418 : BitVec 1 := Scalar.cmpi .slt v414 c0_i32_351
  let v419 : BitVec 1 := Scalar.xori v417 v418
  let c0_i32_349 : BitVec 32 := 0#32
  let v416 : BitVec 1 := Scalar.cmpi .ne v415 c0_i32_349
  let v420 : BitVec 1 := Scalar.andi v419 v416
  let v421 : BitVec 32 := Scalar.addi v415 v414
  let v422 : BitVec 32 := Scalar.select v420 v421 v415
  let c0_i32_355 : BitVec 32 := 0#32
  let c0_i32_356 : BitVec 32 := 0#32
  ![v422.toNat, 0, 0]
def k0_off6 (d0 : Dev nD) (c1_i32_387 : BitVec 32) : Fin 2 → Nat :=
  let c0_395 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v470 : BitVec 32 := Scalar.addi v2 c1_i32_387
  let c4_i32_388 : BitVec 32 := 4#32
  let c0_i32_389 : BitVec 32 := 0#32
  let v471 : BitVec 1 := Scalar.cmpi .eq c4_i32_388 c0_i32_389
  let c1_i32_390 : BitVec 32 := 1#32
  let v472 : BitVec 32 := Scalar.select v471 c1_i32_390 c4_i32_388
  let v473 : BitVec 32 := Scalar.remsi v470 v472
  let c0_i32_392 : BitVec 32 := 0#32
  let v475 : BitVec 1 := Scalar.cmpi .slt v473 c0_i32_392
  let c0_i32_393 : BitVec 32 := 0#32
  let v476 : BitVec 1 := Scalar.cmpi .slt v472 c0_i32_393
  let v477 : BitVec 1 := Scalar.xori v475 v476
  let c0_i32_391 : BitVec 32 := 0#32
  let v474 : BitVec 1 := Scalar.cmpi .ne v473 c0_i32_391
  let v478 : BitVec 1 := Scalar.andi v477 v474
  let v479 : BitVec 32 := Scalar.addi v473 v472
  let v480 : BitVec 32 := Scalar.select v478 v479 v473
  let c512_i32_394 : BitVec 32 := 512#32
  let v481 : BitVec 32 := Scalar.muli v480 c512_i32_394
  let v482 : Index := Scalar.indexCast v481
  ![0, v482.toNat]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_405 : BitVec 32 := 0#32
  let c0_i32_406 : BitVec 32 := 0#32
  ![v2.toNat, 0, 0]
def k0_dev7 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_387 : BitVec 32 := 1#32
  let v470 : BitVec 32 := Scalar.addi v2 c1_i32_387
  let c4_i32_388 : BitVec 32 := 4#32
  let c0_i32_389 : BitVec 32 := 0#32
  let v471 : BitVec 1 := Scalar.cmpi .eq c4_i32_388 c0_i32_389
  let c1_i32_390 : BitVec 32 := 1#32
  let v472 : BitVec 32 := Scalar.select v471 c1_i32_390 c4_i32_388
  let v473 : BitVec 32 := Scalar.remsi v470 v472
  let c0_i32_392 : BitVec 32 := 0#32
  let v475 : BitVec 1 := Scalar.cmpi .slt v473 c0_i32_392
  let c0_i32_393 : BitVec 32 := 0#32
  let v476 : BitVec 1 := Scalar.cmpi .slt v472 c0_i32_393
  let v477 : BitVec 1 := Scalar.xori v475 v476
  let c0_i32_391 : BitVec 32 := 0#32
  let v474 : BitVec 1 := Scalar.cmpi .ne v473 c0_i32_391
  let v478 : BitVec 1 := Scalar.andi v477 v474
  let v479 : BitVec 32 := Scalar.addi v473 v472
  let v480 : BitVec 32 := Scalar.select v478 v479 v473
  let c1_i32_403 : BitVec 32 := 1#32
  let v495 : BitVec 32 := Scalar.muli v480 c1_i32_403
  let v496 : BitVec 32 := Scalar.addi c0_i32_404 v495
  v496.toNat
def k0_dev8 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_409 : BitVec 32 := 2#32
  let v505 : BitVec 32 := Scalar.addi v2 c2_i32_409
  let c4_i32_410 : BitVec 32 := 4#32
  let c0_i32_411 : BitVec 32 := 0#32
  let v506 : BitVec 1 := Scalar.cmpi .eq c4_i32_410 c0_i32_411
  let c1_i32_412 : BitVec 32 := 1#32
  let v507 : BitVec 32 := Scalar.select v506 c1_i32_412 c4_i32_410
  let v508 : BitVec 32 := Scalar.remsi v505 v507
  let c0_i32_414 : BitVec 32 := 0#32
  let v510 : BitVec 1 := Scalar.cmpi .slt v508 c0_i32_414
  let c0_i32_415 : BitVec 32 := 0#32
  let v511 : BitVec 1 := Scalar.cmpi .slt v507 c0_i32_415
  let v512 : BitVec 1 := Scalar.xori v510 v511
  let c0_i32_413 : BitVec 32 := 0#32
  let v509 : BitVec 1 := Scalar.cmpi .ne v508 c0_i32_413
  let v513 : BitVec 1 := Scalar.andi v512 v509
  let v514 : BitVec 32 := Scalar.addi v508 v507
  let v515 : BitVec 32 := Scalar.select v513 v514 v508
  let c1_i32_424 : BitVec 32 := 1#32
  let v530 : BitVec 32 := Scalar.muli v515 c1_i32_424
  let v531 : BitVec 32 := Scalar.addi c0_i32_425 v530
  v531.toNat
def k0_dev9 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_430 : BitVec 32 := 3#32
  let v540 : BitVec 32 := Scalar.addi v2 c3_i32_430
  let c4_i32_431 : BitVec 32 := 4#32
  let c0_i32_432 : BitVec 32 := 0#32
  let v541 : BitVec 1 := Scalar.cmpi .eq c4_i32_431 c0_i32_432
  let c1_i32_433 : BitVec 32 := 1#32
  let v542 : BitVec 32 := Scalar.select v541 c1_i32_433 c4_i32_431
  let v543 : BitVec 32 := Scalar.remsi v540 v542
  let c0_i32_435 : BitVec 32 := 0#32
  let v545 : BitVec 1 := Scalar.cmpi .slt v543 c0_i32_435
  let c0_i32_436 : BitVec 32 := 0#32
  let v546 : BitVec 1 := Scalar.cmpi .slt v542 c0_i32_436
  let v547 : BitVec 1 := Scalar.xori v545 v546
  let c0_i32_434 : BitVec 32 := 0#32
  let v544 : BitVec 1 := Scalar.cmpi .ne v543 c0_i32_434
  let v548 : BitVec 1 := Scalar.andi v547 v544
  let v549 : BitVec 32 := Scalar.addi v543 v542
  let v550 : BitVec 32 := Scalar.select v548 v549 v543
  let c1_i32_445 : BitVec 32 := 1#32
  let v565 : BitVec 32 := Scalar.muli v550 c1_i32_445
  let v566 : BitVec 32 := Scalar.addi c0_i32_446 v565
  v566.toNat
def k0_off8 (d0 : Dev nD) : Fin 2 → Nat :=
  let c0_452 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_451 : BitVec 32 := 512#32
  let v575 : BitVec 32 := Scalar.muli v2 c512_i32_451
  let v576 : Index := Scalar.indexCast v575
  ![0, v576.toNat]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_458 : BitVec 32 := 1024#32
  let v590 : BitVec 32 := Scalar.muli v2 c1024_i32_458
  let c0_i32_461 : BitVec 32 := 0#32
  ![v590.toNat, 0]
def k0_off10 (d0 : Dev nD) (c1_i32_464 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v596 : BitVec 32 := Scalar.addi v2 c1_i32_464
  let c4_i32_465 : BitVec 32 := 4#32
  let c0_i32_466 : BitVec 32 := 0#32
  let v597 : BitVec 1 := Scalar.cmpi .eq c4_i32_465 c0_i32_466
  let c1_i32_467 : BitVec 32 := 1#32
  let v598 : BitVec 32 := Scalar.select v597 c1_i32_467 c4_i32_465
  let v599 : BitVec 32 := Scalar.remsi v596 v598
  let c0_i32_469 : BitVec 32 := 0#32
  let v601 : BitVec 1 := Scalar.cmpi .slt v599 c0_i32_469
  let c0_i32_470 : BitVec 32 := 0#32
  let v602 : BitVec 1 := Scalar.cmpi .slt v598 c0_i32_470
  let v603 : BitVec 1 := Scalar.xori v601 v602
  let c0_i32_468 : BitVec 32 := 0#32
  let v600 : BitVec 1 := Scalar.cmpi .ne v599 c0_i32_468
  let v604 : BitVec 1 := Scalar.andi v603 v600
  let v605 : BitVec 32 := Scalar.addi v599 v598
  let v606 : BitVec 32 := Scalar.select v604 v605 v599
  let c0_i32_475 : BitVec 32 := 0#32
  let c0_i32_476 : BitVec 32 := 0#32
  ![v606.toNat, 0, 0]
def k0_off11 (d0 : Dev nD) (c1_i32_464 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v596 : BitVec 32 := Scalar.addi v2 c1_i32_464
  let c4_i32_465 : BitVec 32 := 4#32
  let c0_i32_466 : BitVec 32 := 0#32
  let v597 : BitVec 1 := Scalar.cmpi .eq c4_i32_465 c0_i32_466
  let c1_i32_467 : BitVec 32 := 1#32
  let v598 : BitVec 32 := Scalar.select v597 c1_i32_467 c4_i32_465
  let v599 : BitVec 32 := Scalar.remsi v596 v598
  let c0_i32_469 : BitVec 32 := 0#32
  let v601 : BitVec 1 := Scalar.cmpi .slt v599 c0_i32_469
  let c0_i32_470 : BitVec 32 := 0#32
  let v602 : BitVec 1 := Scalar.cmpi .slt v598 c0_i32_470
  let v603 : BitVec 1 := Scalar.xori v601 v602
  let c0_i32_468 : BitVec 32 := 0#32
  let v600 : BitVec 1 := Scalar.cmpi .ne v599 c0_i32_468
  let v604 : BitVec 1 := Scalar.andi v603 v600
  let v605 : BitVec 32 := Scalar.addi v599 v598
  let v606 : BitVec 32 := Scalar.select v604 v605 v599
  let v615 : Index := Scalar.indexCast v606
  let c0_479 : Index := 0#32
  let c0_480 : Index := 0#32
  ![v615.toNat, 0, 0]
def k0_off12 (d0 : Dev nD) (c1_i32_464 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v596 : BitVec 32 := Scalar.addi v2 c1_i32_464
  let c4_i32_465 : BitVec 32 := 4#32
  let c0_i32_466 : BitVec 32 := 0#32
  let v597 : BitVec 1 := Scalar.cmpi .eq c4_i32_465 c0_i32_466
  let c1_i32_467 : BitVec 32 := 1#32
  let v598 : BitVec 32 := Scalar.select v597 c1_i32_467 c4_i32_465
  let v599 : BitVec 32 := Scalar.remsi v596 v598
  let c0_i32_469 : BitVec 32 := 0#32
  let v601 : BitVec 1 := Scalar.cmpi .slt v599 c0_i32_469
  let c0_i32_470 : BitVec 32 := 0#32
  let v602 : BitVec 1 := Scalar.cmpi .slt v598 c0_i32_470
  let v603 : BitVec 1 := Scalar.xori v601 v602
  let c0_i32_468 : BitVec 32 := 0#32
  let v600 : BitVec 1 := Scalar.cmpi .ne v599 c0_i32_468
  let v604 : BitVec 1 := Scalar.andi v603 v600
  let v605 : BitVec 32 := Scalar.addi v599 v598
  let v606 : BitVec 32 := Scalar.select v604 v605 v599
  let c1024_i32_484 : BitVec 32 := 1024#32
  let v624 : BitVec 32 := Scalar.muli v606 c1024_i32_484
  let c0_i32_487 : BitVec 32 := 0#32
  ![v624.toNat, 0]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Base.lean ====
/-
The resource algebra of the proof (the copies inside a device wait at index `false`, the exchange at `true`): the pipeline library's rounds, one copy of rounds for the exchange between the four
devices (duties named by devices), and the counters local transfers count with.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rounds of the exchange: duties are named by the device that pays them. -/
abbrev UB : Type := URounds (GSem nD τ sig) (Dev nD)
/-- The proof's user algebra. -/
abbrev UU : Type := UR sig nD τ × (UB × Counters)

/-- The machine's algebra at any values. -/
abbrev MM (F : FTy → Type) : Type _ := MT nD τ sig Bool (Elt F) ℕ UU ℕ

/-- The pipeline library's copy of the rounds. -/
abbrev EP {F : FTy → Type} : Emb (UR sig nD τ) (MM F) := embL
/-- The exchange's copy. -/
abbrev ER {F : FTy → Type} : Emb UB (MM F) := (Emb.inl : Emb UB (UB × Counters)).trans embR

instance er_landsIn {F : FTy → Type} : (ER : Emb UB (MM F)).LandsIn (upEmb : UEmb _ (MM F)) := by
  unfold ER; infer_instance

/-- The kernel makes no calls. -/
abbrev 𝒱₀ : Variants := Variants.none

end Cert.QK

end
-- ==== Proof.Values.lean ====
/-
The values the kernel computes, as functions of the two arguments: the bfloat16 copies of the operands, the rectified
product in eight column chunks, its largest element on each device, the scale the four devices agree on, the quantised
blocks that travel, and the result.
-/
module

public import proofs.«01_k».proof.Proof.Base

@[expose] public section

noncomputable section

namespace Cert.QK

open Cert.KernelIdeal Cert.KernelIdeal.Gen
open Idealize.ShloMosaic

variable {F : FTy → Type} [FloatOps F]

theorem inb_wcols (k : Fin 8) : ∀ a, (![0, 256 * k.val] : Fin 2 → ℕ) a + S4096x256.size a ≤ S4096x2048.size a := by
  revert k; decide

theorem inb_xrows (k : Fin 4) : ∀ a, (![256 * k.val, 0] : Fin 2 → ℕ) a + S256x4096.size a ≤ S1024x4096.size a := by
  revert k; decide

/-- Chunk `k` of the columns of the second operand. -/
def wcols (W : FVec F S4096x2048 .f32) (k : Fin 8) : FVec F S4096x256 .f32 :=
  fun i => W ((Rect.unit (s := S4096x2048) ![0, 256 * k.val] S4096x256.size (inb_wcols k)).emb i)

/-- Row chunk `k` of the first operand. -/
def xrows (X : FVec F S1024x4096 .f32) (k : Fin 4) : FVec F S256x4096 .f32 :=
  fun i => X ((Rect.unit (s := S1024x4096) ![256 * k.val, 0] S256x4096.size (inb_xrows k)).emb i)

/-- The first operand in bfloat16. -/
def xb (X : FVec F S1024x4096 .f32) : FVec F S1024x4096 .bf16 := truncf .bf16 X bitsLt_bf16_f32

/-- Chunk `k` of the second operand in bfloat16, as the staging slot holds it. -/
def wb (W : FVec F S4096x2048 .f32) (k : Fin 8) : FVec F S1x4096x256 .bf16 :=
  shapeCast S1x4096x256 (truncf .bf16 (wcols W k) bitsLt_bf16_f32) shapeCasts_S4096x256_S1x4096x256

/-- Chunk `k` of the rectified product. -/
def yc (X : FVec F S1024x4096 .f32) (W : FVec F S4096x2048 .f32) (k : Fin 8) : FVec F S1024x256 .f32 := k0_pay6 (xb X) (wb W k)

/-- The largest element of chunk `k`. -/
def cm (X : FVec F S1024x4096 .f32) (W : FVec F S4096x2048 .f32) (k : Fin 8) : F .f32 := k0_pay8 (xb X) (wb W k)

/-- The place inside its chunk of a place of the product. -/
def inChunk (i : S1024x2048.Idx) : S1024x256.Idx :=
  fun a => match a with
    | ⟨0, _⟩ => ⟨(i 0).val, (i 0).isLt⟩
    | ⟨1, _⟩ => ⟨(i 1).val % 256, Nat.mod_lt _ (by decide)⟩

/-- The chunk of a place of the product. -/
def chunkOf (i : S1024x2048.Idx) : Fin 8 :=
  ⟨(i 1).val / 256, by have h : (i 1).val < 2048 := (i 1).isLt; omega⟩

/-- The rectified product of a device's rows. -/
def yAll (X : FVec F S1024x4096 .f32) (W : FVec F S4096x2048 .f32) : FVec F S1024x2048 .f32 :=
  fun i => yc X W (chunkOf i) (inChunk i)

/-- Its largest element. -/
def lmax (X : FVec F S1024x4096 .f32) (W : FVec F S4096x2048 .f32) : F .f32 :=
  k0_pay36 (cm X W 0) (cm X W 1) (cm X W 2) (cm X W 3) (cm X W 4) (cm X W 5) (cm X W 6) (xb X) (wb W 7)

/-- The four devices' largest elements, as the exchange leaves them in every device's buffer. -/
def amaxAll (X : Dev nD → FVec F S1024x4096 .f32) (W : Dev nD → FVec F S4096x2048 .f32) : FVec F S4x8x128 .f32 :=
  fun i => lmax (X ⟨(i 0).val, (i 0).isLt⟩) (W ⟨(i 0).val, (i 0).isLt⟩)

/-- 127 over the largest element of all, -/
def inv (X : Dev nD → FVec F S1024x4096 .f32) (W : Dev nD → FVec F S4096x2048 .f32) : F .f32 := k0_pay40 (amaxAll X W)

/-- and the scale: the largest element of all over 127. -/
def scl (X : Dev nD → FVec F S1024x4096 .f32) (W : Dev nD → FVec F S4096x2048 .f32) : F .f32 := k0_pay41 (amaxAll X W)

theorem inb_yblk (p : Dev nD) : ∀ a, (![0, 512 * p.val] : Fin 2 → ℕ) a + S1024x512.size a ≤ S1024x2048.size a := by
  revert p; decide

/-- The columns of device `s`'s product that belong to device `p`. -/
def yblk (X : Dev nD → FVec F S1024x4096 .f32) (W : Dev nD → FVec F S4096x2048 .f32) (s p : Dev nD) : FVec F S1024x512 .f32 :=
  fun i => yAll (X s) (W s) ((Rect.unit (s := S1024x2048) ![0, 512 * p.val] S1024x512.size (inb_yblk p)).emb i)

/-- They, quantised, as the staging slot holds them. -/
def qblk (X : Dev nD → FVec F S1024x4096 .f32) (W : Dev nD → FVec F S4096x2048 .f32) (s p : Dev nD) : IVec S1x1024x512 8 :=
  k0_pay42 (inv X W) (yblk X W s p)

/-- The place of a 1024-by-512 block inside a one-slot block. -/
def slotIx (i : S4x1024x512.Idx) : S1x1024x512.Idx :=
  fun a => match a with
    | ⟨0, _⟩ => ⟨0, Nat.one_pos⟩
    | ⟨1, _⟩ => ⟨(i 1).val, (i 1).isLt⟩
    | ⟨2, _⟩ => ⟨(i 2).val, (i 2).isLt⟩

/-- What device `p` receives: in slot `s` device `s`'s block for it. -/
def rAll (X : Dev nD → FVec F S1024x4096 .f32) (W : Dev nD → FVec F S4096x2048 .f32) (p : Dev nD) : IVec S4x1024x512 8 :=
  fun i => qblk X W ⟨(i 0).val, (i 0).isLt⟩ p (slotIx i)

/-- The row block of device `s` in device `p`'s result: its own block goes through no quantised word. -/
def oblk (X : Dev nD → FVec F S1024x4096 .f32) (W : Dev nD → FVec F S4096x2048 .f32) (p s : Dev nD) : FVec F S1x1024x512 .f32 :=
  if s = p then k0_pay47 (inv X W) (scl X W) (yblk X W p p) else k0_pay48 (scl X W) (qblk X W s p)

/-- The place inside its row block of a place of the result. -/
def inRows (i : S4096x512.Idx) : S1x1024x512.Idx :=
  fun a => match a with
    | ⟨0, _⟩ => ⟨0, Nat.one_pos⟩
    | ⟨1, _⟩ => ⟨(i 0).val % 1024, Nat.mod_lt _ (by decide)⟩
    | ⟨2, _⟩ => ⟨(i 1).val, (i 1).isLt⟩

/-- The row block of a place of the result. -/
def rowsOf (i : S4096x512.Idx) : Dev nD :=
  ⟨(i 0).val / 1024, by have h : (i 0).val < 4096 := (i 0).isLt; show _ < 4; omega⟩

/-- Device `p`'s result. -/
def outAll (X : Dev nD → FVec F S1024x4096 .f32) (W : Dev nD → FVec F S4096x2048 .f32) (p : Dev nD) : FVec F S4096x512 .f32 :=
  fun i => oblk X W p (rowsOf i) (inRows i)

end Cert.QK

end
-- ==== Proof.Sched.lean ====
/-
The exchange between the four devices: its memory slots, its semaphore cells, and the schedule of one round that says who
pays which cell, how much, and what comes with the payment.
-/
module

public import proofs.«01_k».proof.Proof.Values

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

/-! ## The devices around -/

set_option backward.proofsInPublic true in
/-- The device `d` places on from `c`. -/
def pr (c d : Dev nD) : Dev nD := ⟨(c.val + d.val) % 4, Nat.mod_lt _ (by decide)⟩

/-! ## The slots -/

theorem inb_am (s : Dev nD) : ∀ a, (![s.val, 0, 0] : Fin 3 → ℕ) a + S1x8x128.size a ≤ S4x8x128.size a := by revert s; decide
theorem inb_rv (s : Dev nD) : ∀ a, (![s.val, 0, 0] : Fin 3 → ℕ) a + S1x1024x512.size a ≤ S4x1024x512.size a := by revert s; decide
theorem inb_or (s : Dev nD) : ∀ a, (![1024 * s.val, 0] : Fin 2 → ℕ) a + S1024x512.size a ≤ S4096x512.size a := by revert s; decide
theorem inb_dq (k : Fin 2) : ∀ a, (![k.val, 0, 0] : Fin 3 → ℕ) a + S1x1024x512.size a ≤ S2x1024x512.size a := by revert k; decide

/-- The buffer a device's largest element is sent from. -/
abbrev asM : Memref sig .tc .vmem S8x128 .f32 := Memref.whole cc0_scratch8
/-- Slot `s` of the buffer the largest elements arrive in. -/
abbrev amM (s : Dev nD) : Memref sig .tc .vmem S8x128 .f32 :=
  ((Memref.whole cc0_scratch9).slice (Rect.unit (s := S4x8x128) ![s.val, 0, 0] S1x8x128.size (inb_am s)) (fun _ => rfl)).squeeze S8x128 squeezes_S1x8x128_S8x128
/-- Slot `s` of the buffer the quantised blocks arrive in. -/
abbrev rvM (s : Dev nD) : Memref sig .tc .vmem S1024x512 .i8 :=
  ((Memref.whole cc0_scratch6).slice (Rect.unit (s := S4x1024x512) ![s.val, 0, 0] S1x1024x512.size (inb_rv s)) (fun _ => rfl)).squeeze S1024x512 squeezes_S1x1024x512_S1024x512
/-- Slot `d` of the buffer they are sent from. -/
abbrev sdM (d : Dev nD) : Memref sig .tc .vmem S1024x512 .i8 :=
  ((Memref.whole cc0_scratch5).slice (Rect.unit (s := S4x1024x512) ![d.val, 0, 0] S1x1024x512.size (inb_rv d)) (fun _ => rfl)).squeeze S1024x512 squeezes_S1x1024x512_S1024x512
/-- Slot `k` of the buffer the result's row blocks are assembled in. -/
abbrev dqM (k : Fin 2) : Memref sig .tc .vmem S1024x512 .f32 :=
  ((Memref.whole cc0_scratch7).slice (Rect.unit (s := S2x1024x512) ![k.val, 0, 0] S1x1024x512.size (inb_dq k)) (fun _ => rfl)).squeeze S1024x512 squeezes_S1x1024x512_S1024x512
/-- Row block `s` of the result. -/
abbrev orM (s : Dev nD) : Memref sig .tc .hbm S1024x512 .f32 :=
  (Memref.whole main_v1).slice (Rect.unit (s := S4096x512) ![1024 * s.val, 0] S1024x512.size (inb_or s)) (fun _ => rfl)

def amPts (p s : Dev nD) (f : FVec F S4x8x128 .f32) : sProp 𝕄 := (amM s).view.loc (p : Thread nD τ) ↦[(amM s).view.set]{fullShare} f
def rvPts (p s : Dev nD) (f : IVec S4x1024x512 8) : sProp 𝕄 := (rvM s).view.loc (p : Thread nD τ) ↦[(rvM s).view.set]{fullShare} f
def sdPts (p d : Dev nD) (f : IVec S4x1024x512 8) : sProp 𝕄 := (sdM d).view.loc (p : Thread nD τ) ↦[(sdM d).view.set]{fullShare} f
def dqPts (p : Dev nD) (k : Fin 2) (f : FVec F S2x1024x512 .f32) : sProp 𝕄 := (dqM k).view.loc (p : Thread nD τ) ↦[(dqM k).view.set]{fullShare} f
def orPts (p s : Dev nD) (f : FVec F S4096x512 .f32) : sProp 𝕄 := (orM s).view.loc (p : Thread nD τ) ↦[(orM s).view.set]{fullShare} f
def asPts (p : Dev nD) (q : PosShare TreeShare) (f : FVec F S8x128 .f32) : sProp 𝕄 := asM.view.loc (p : Thread nD τ) ↦[asM.view.set]{q} f

/-- The share of the sent buffer lent to the transfer `d` places on. -/
def aq (d : Dev nD) : PosShare TreeShare :=
  if d.val = 1 then fullShare.left else if d.val = 2 then fullShare.right.left else fullShare.right.right

/-! ## The cells -/

abbrev barS : Sem sig := (SemArray.scalar (sig.barrier 0 rfl) : Sems sig S_).sem

/-- The exchange's semaphores: 0 the barrier, 1–4 the sent blocks', 5–8 the received blocks', 9–12 the sent largest
    elements', 13–16 the received largest elements'. -/
def csem (k : Fin 17) : SemLoc sig :=
  if k.val = 0 then .reg barS else .dma ⟨5 + k.val, by have := k.isLt; show _ < 22; omega⟩

/-- The place of a semaphore in that list; 17 and on for the others. -/
def idx (sm : SemLoc sig) : ℕ := match sm with
  | .reg _ => 0
  | .dma n => if n.val < 6 then 17 else n.val - 5

theorem idx_csem (k : Fin 17) : idx (csem k) = k.val := by revert k; decide
theorem csem_injective : Function.Injective csem := fun k k' h => Fin.ext (by rw [← idx_csem k, ← idx_csem k', h])

abbrev kcell (ck : Dev nD × Fin 17) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def sendK (d : Dev nD) : Fin 17 := ⟨1 + d.val, by have : d.val < 4 := d.isLt; omega⟩
def recvK (s : Dev nD) : Fin 17 := ⟨5 + s.val, by have : s.val < 4 := s.isLt; omega⟩
def asendK (d : Dev nD) : Fin 17 := ⟨9 + d.val, by have : d.val < 4 := d.isLt; omega⟩
def arecvK (s : Dev nD) : Fin 17 := ⟨13 + s.val, by have : s.val < 4 := s.isLt; omega⟩

/-- The credit of one block of largest elements, -/
abbrev Na : ℕ := (amM 0).view.dmaCredit
/-- and of one quantised block. -/
abbrev Nq : ℕ := (rvM 0).view.dmaCredit
theorem Na_pos : 0 < Na := View.dmaCredit_pos _ (by decide)
theorem Nq_pos : 0 < Nq := View.dmaCredit_pos _ (by decide)

/-! ## The schedule -/

variable (X : Dev nD → FVec F S1024x4096 .f32) (W : Dev nD → FVec F S4096x2048 .f32)

/-- What device `p`'s signal hands device `c`: `p`'s two slots that `c` will write. -/
def barPay (p c : Dev nD) : sProp 𝕄 := iprop((∃ f, amPts p c f) ∗ (∃ f, rvPts (F := F) p c f))
/-- What a finished send gives back: its slot; -/
def sendPay (c d : Dev nD) : sProp 𝕄 := iprop(∃ f, sdPts (F := F) c d f)
/-- what arrives with a block: the slot holding the sender's quantised block; -/
def recvPay (c s : Dev nD) : sProp 𝕄 := rvPts (F := F) c s (rAll X W c)
/-- what a finished send of the largest element gives back: the share lent; -/
def asendPay (c d : Dev nD) : sProp 𝕄 := asPts c (aq d) (fun _ => lmax (X c) (W c))
/-- and what arrives with one: the slot holding the sender's. -/
def arecvPay (c s : Dev nD) : sProp 𝕄 := amPts c s (amaxAll X W)

/-- The device a number names. -/
def dv (k : ℕ) : Dev nD := ⟨k % 4, Nat.mod_lt _ (by decide)⟩

/-- Who pays semaphore `k` of device `c`: the barrier every other device; a send's semaphore the device itself; a
    receive's the sender. -/
def dutiesOf (c : Dev nD) (k : ℕ) : Finset (Dev nD) :=
  if k = 0 then Finset.univ.erase c
  else if k ≤ 4 then (if k = 1 then ∅ else {c})
  else if k ≤ 8 then (if dv (k - 5) = c then ∅ else {dv (k - 5)})
  else if k ≤ 12 then (if k = 9 then ∅ else {c})
  else if k ≤ 16 then (if dv (k - 13) = c then ∅ else {dv (k - 13)})
  else ∅

def amountOf (k : ℕ) : ℕ := if k = 0 then 1 else if k ≤ 8 then Nq else Na

def payOf (c : Dev nD) (k : ℕ) (d : Dev nD) : sProp 𝕄 :=
  if k = 0 then barPay d c
  else if k ≤ 4 then sendPay c (dv (k - 1))
  else if k ≤ 8 then recvPay X W c (dv (k - 5))
  else if k ≤ 12 then asendPay X W c (dv (k - 9))
  else arecvPay X W c (dv (k - 13))

/-- One round. -/
def Rd : Rounds.Schedule (GSem nD τ sig) (Dev nD) 𝕄 where
  duties g r := if r = 0 then dutiesOf g.1.1 (idx g.2) else ∅
  unitless _ := False
  amount g _ _ := amountOf (idx g.2)
  payload g _ d := payOf X W g.1.1 (idx g.2) d
  amount_pos g _ _ _ := by
    show 0 < amountOf (idx g.2)
    unfold amountOf
    split
    · exact Nat.one_pos
    · split
      · exact Nq_pos
      · exact Na_pos

instance Rd_payload_storable (g : GSem nD τ sig) (r : ℕ) (d : Dev nD) :
    BI.Storable (upEmb : UEmb _ 𝕄) ((Rd X W).payload g r d) := by
  show BI.Storable upEmb (payOf X W g.1.1 (idx g.2) d)
  unfold payOf barPay sendPay recvPay asendPay arecvPay amPts rvPts sdPts asPts
  (repeat' split) <;> infer_instance

theorem duties_eq (c : Dev nD) (k : Fin 17) : (Rd X W).duties (kcell (c, k)) 0 = dutiesOf c k.val := by
  show (if (0 : ℕ) = 0 then dutiesOf c (idx (csem k)) else ∅) = _
  rw [if_pos rfl, idx_csem]
theorem duties_later (g : GSem nD τ sig) : ∀ r, 1 ≤ r → (Rd X W).duties g r = ∅ := fun r hr => if_neg (by omega)
theorem amount_eq (c : Dev nD) (k : Fin 17) (d : Dev nD) : (Rd X W).amount (kcell (c, k)) 0 d = amountOf k.val := by
  show amountOf (idx (csem k)) = _; rw [idx_csem]
theorem payload_eq (c : Dev nD) (k : Fin 17) (d : Dev nD) : (Rd X W).payload (kcell (c, k)) 0 d = payOf X W c k.val d := by
  show payOf X W c (idx (csem k)) d = _; rw [idx_csem]

theorem duties_bar (c : Dev nD) : (Rd X W).duties (kcell (c, 0)) 0 = Finset.univ.erase c := (duties_eq X W c 0).trans (by rfl)
theorem duties_send (c d : Dev nD) (h : d.val ≠ 0) : (Rd X W).duties (kcell (c, sendK d)) 0 = {c} :=
  (duties_eq X W c _).trans (by revert c d; decide)
theorem duties_recv (c s : Dev nD) (h : s ≠ c) : (Rd X W).duties (kcell (c, recvK s)) 0 = {s} :=
  (duties_eq X W c _).trans (by revert c s; decide)
theorem duties_asend (c d : Dev nD) (h : d.val ≠ 0) : (Rd X W).duties (kcell (c, asendK d)) 0 = {c} :=
  (duties_eq X W c _).trans (by revert c d; decide)
theorem duties_arecv (c s : Dev nD) (h : s ≠ c) : (Rd X W).duties (kcell (c, arecvK s)) 0 = {s} :=
  (duties_eq X W c _).trans (by revert c s; decide)

/-- A cell nobody pays: a device's send to itself, and its receive from itself. -/
theorem duties_none (c : Dev nD) (k : Fin 17) (h : dutiesOf c k.val = ∅) : ∀ r, 0 ≤ r → (Rd X W).duties (kcell (c, k)) r = ∅ := fun r _ => by
  rcases Nat.eq_zero_or_pos r with rfl | hr
  · rw [duties_eq, h]
  · exact duties_later X W _ r hr

theorem amount_bar (c d : Dev nD) : (Rd X W).amount (kcell (c, 0)) 0 d = 1 := amount_eq X W c 0 d
theorem amount_send (c e d : Dev nD) : (Rd X W).amount (kcell (c, sendK e)) 0 d = Nq :=
  (amount_eq X W c _ d).trans (by unfold amountOf; have : e.val < 4 := e.isLt; have h : (sendK e).val = 1 + e.val := rfl; rw [if_neg (by omega), if_pos (by omega)])
theorem amount_recv (c e d : Dev nD) : (Rd X W).amount (kcell (c, recvK e)) 0 d = Nq :=
  (amount_eq X W c _ d).trans (by unfold amountOf; have : e.val < 4 := e.isLt; have h : (recvK e).val = 5 + e.val := rfl; rw [if_neg (by omega), if_pos (by omega)])
theorem amount_asend (c e d : Dev nD) : (Rd X W).amount (kcell (c, asendK e)) 0 d = Na :=
  (amount_eq X W c _ d).trans (by unfold amountOf; have : e.val < 4 := e.isLt; have h : (asendK e).val = 9 + e.val := rfl; rw [if_neg (by omega), if_neg (by omega)])
theorem amount_arecv (c e d : Dev nD) : (Rd X W).amount (kcell (c, arecvK e)) 0 d = Na :=
  (amount_eq X W c _ d).trans (by unfold amountOf; have : e.val < 4 := e.isLt; have h : (arecvK e).val = 13 + e.val := rfl; rw [if_neg (by omega), if_neg (by omega)])

theorem dv_val (e : Dev nD) (k j : ℕ) (h : k = j + e.val) : dv (k - j) = e := by
  have : e.val < 4 := e.isLt
  exact Fin.ext (by show (k - j) % 4 = e.val; subst h; omega)

theorem payload_bar (c d : Dev nD) : (Rd X W).payload (kcell (c, 0)) 0 d = barPay d c := payload_eq X W c 0 d
theorem payload_send (c e d : Dev nD) : (Rd X W).payload (kcell (c, sendK e)) 0 d = sendPay c e :=
  (payload_eq X W c _ d).trans (by unfold payOf; have : e.val < 4 := e.isLt; have h : (sendK e).val = 1 + e.val := rfl
                                   rw [if_neg (by omega), if_pos (by omega), dv_val e _ 1 h])
theorem payload_recv (c e d : Dev nD) : (Rd X W).payload (kcell (c, recvK e)) 0 d = recvPay X W c e :=
  (payload_eq X W c _ d).trans (by unfold payOf; have : e.val < 4 := e.isLt; have h : (recvK e).val = 5 + e.val := rfl
                                   rw [if_neg (by omega), if_neg (by omega), if_pos (by omega), dv_val e _ 5 h])
theorem payload_asend (c e d : Dev nD) : (Rd X W).payload (kcell (c, asendK e)) 0 d = asendPay X W c e :=
  (payload_eq X W c _ d).trans (by unfold payOf; have : e.val < 4 := e.isLt; have h : (asendK e).val = 9 + e.val := rfl
                                   rw [if_neg (by omega), if_neg (by omega), if_neg (by omega), if_pos (by omega), dv_val e _ 9 h])
theorem payload_arecv (c e d : Dev nD) : (Rd X W).payload (kcell (c, arecvK e)) 0 d = arecvPay X W c e :=
  (payload_eq X W c _ d).trans (by unfold payOf; have : e.val < 4 := e.isLt; have h : (arecvK e).val = 13 + e.val := rfl
                                   rw [if_neg (by omega), if_neg (by omega), if_neg (by omega), if_neg (by omega), dv_val e _ 13 h])

theorem expect_bar (c : Dev nD) : (Rd X W).expect (kcell (c, 0)) 0 = 3 := by
  unfold Schedule.expect Schedule.amountOf
  rw [duties_bar, Finset.sum_congr rfl fun d _ => amount_bar X W c d, Finset.sum_const, Finset.card_erase_of_mem (Finset.mem_univ c), Finset.card_univ, Fintype.card_fin]
  rfl
theorem expect_send (c d : Dev nD) (h : d.val ≠ 0) : (Rd X W).expect (kcell (c, sendK d)) 0 = Nq := by
  unfold Schedule.expect Schedule.amountOf; rw [duties_send X W c d h, Finset.sum_singleton, amount_send]
theorem expect_recv (c d : Dev nD) (h : d ≠ c) : (Rd X W).expect (kcell (c, recvK d)) 0 = Nq := by
  unfold Schedule.expect Schedule.amountOf; rw [duties_recv X W c d h, Finset.sum_singleton, amount_recv]
theorem expect_asend (c d : Dev nD) (h : d.val ≠ 0) : (Rd X W).expect (kcell (c, asendK d)) 0 = Na := by
  unfold Schedule.expect Schedule.amountOf; rw [duties_asend X W c d h, Finset.sum_singleton, amount_asend]
theorem expect_arecv (c d : Dev nD) (h : d ≠ c) : (Rd X W).expect (kcell (c, arecvK d)) 0 = Na := by
  unfold Schedule.expect Schedule.amountOf; rw [duties_arecv X W c d h, Finset.sum_singleton, amount_arecv]

theorem erase_eq (c : Dev nD) : (Finset.univ.erase c : Finset (Dev nD)) = ([pr c 1, pr c 2, pr c 3] : List (Dev nD)).toFinset := by revert c; decide
theorem prs_nodup (c : Dev nD) : ([pr c 1, pr c 2, pr c 3] : List (Dev nD)).Nodup := by revert c; decide

/-- What the three signals to a device hand it together. -/
theorem rest_bar (c : Dev nD) : bigSep ((Rd X W).duties (kcell (c, 0)) 0 \ ∅) (fun d => (Rd X W).payload (kcell (c, 0)) 0 d)
    = iprop(barPay (pr c 1) c ∗ barPay (pr c 2) c ∗ barPay (F := F) (pr c 3) c) := by
  rw [Finset.sdiff_empty, duties_bar, bigSep_eq_bigSepL_of_eq [pr c 1, pr c 2, pr c 3] (erase_eq c) (prs_nodup c), bigSepL_cons_cons, bigSepL_cons_cons,
    bigSepL_singleton, payload_bar, payload_bar, payload_bar]
  rfl
theorem rest_send (c d : Dev nD) (h : d.val ≠ 0) : bigSep ((Rd X W).duties (kcell (c, sendK d)) 0 \ ∅) (fun e => (Rd X W).payload (kcell (c, sendK d)) 0 e)
    = sendPay c d := by
  rw [Finset.sdiff_empty, duties_send X W c d h, bigSep_singleton, payload_send]
theorem rest_recv (c d : Dev nD) (h : d ≠ c) : bigSep ((Rd X W).duties (kcell (c, recvK d)) 0 \ ∅) (fun e => (Rd X W).payload (kcell (c, recvK d)) 0 e)
    = recvPay X W c d := by
  rw [Finset.sdiff_empty, duties_recv X W c d h, bigSep_singleton, payload_recv]
theorem rest_asend (c d : Dev nD) (h : d.val ≠ 0) : bigSep ((Rd X W).duties (kcell (c, asendK d)) 0 \ ∅) (fun e => (Rd X W).payload (kcell (c, asendK d)) 0 e)
    = asendPay X W c d := by
  rw [Finset.sdiff_empty, duties_asend X W c d h, bigSep_singleton, payload_asend]
theorem rest_arecv (c d : Dev nD) (h : d ≠ c) : bigSep ((Rd X W).duties (kcell (c, arecvK d)) 0 \ ∅) (fun e => (Rd X W).payload (kcell (c, arecvK d)) 0 e)
    = arecvPay X W c d := by
  rw [Finset.sdiff_empty, duties_arecv X W c d h, bigSep_singleton, payload_arecv]

/-! ## What a device owes at launch, and the levels -/

abbrev oq (c d : Dev nD) : CellTallies nD τ sig Bool := tallyAt (kcell (pr c d, recvK c)) true Nq
abbrev oa (c d : Dev nD) : CellTallies nD τ sig Bool := tallyAt (kcell (pr c d, arecvK c)) true Na
abbrev ob (c d : Dev nD) : CellTallies nD τ sig Bool := tallyAt (kcell (pr c d, 0)) true 1

/-- The last block still owed, the last two, all three; -/
def Oq3 (c : Dev nD) : CellTallies nD τ sig Bool := oq c 3
def Oq2 (c : Dev nD) : CellTallies nD τ sig Bool := Oq3 c + oq c 2
def Oq1 (c : Dev nD) : CellTallies nD τ sig Bool := Oq2 c + oq c 1
/-- with them the largest elements, -/
def Oa3 (c : Dev nD) : CellTallies nD τ sig Bool := Oq1 c + oa c 3
def Oa2 (c : Dev nD) : CellTallies nD τ sig Bool := Oa3 c + oa c 2
def Oa1 (c : Dev nD) : CellTallies nD τ sig Bool := Oa2 c + oa c 1
/-- and the signals: all a device owes at launch is `O₀`. -/
def Ob3 (c : Dev nD) : CellTallies nD τ sig Bool := Oa1 c + ob c 3
def Ob2 (c : Dev nD) : CellTallies nD τ sig Bool := Ob3 c + ob c 2
def O₀ (c : Dev nD) : CellTallies nD τ sig Bool := Ob2 c + ob c 1

def L (g : GSem nD τ sig) : Finset Bool := if g.1.2 = .tc then Finset.univ else ∅
/-- The copies inside a device wait below everything; then the barrier, the largest elements, the blocks. -/
def lv (g : GSem nD τ sig) (i : Bool) : ℕ :=
  if i = false then 0 else if idx g.2 = 0 then 1 else if idx g.2 ≤ 4 then 0 else if idx g.2 ≤ 8 then 3 else if idx g.2 ≤ 12 then 0 else if idx g.2 ≤ 16 then 2 else 0

theorem L_of_ne (g : GSem nD τ sig) (h : g.1.2 ≠ .tc) : L g = ∅ := if_neg h
theorem L_tc (c : Dev nD) (sm : SemLoc sig) : L ((c : Thread nD τ), sm) = Finset.univ := if_pos rfl

theorem lv_bar (c : Dev nD) : lv (kcell (c, 0)) true = 1 := by revert c; decide
theorem lv_send (c d : Dev nD) : lv (kcell (c, sendK d)) true = 0 := by revert c d; decide
theorem lv_recv (c d : Dev nD) : lv (kcell (c, recvK d)) true = 3 := by revert c d; decide
theorem lv_asend (c d : Dev nD) : lv (kcell (c, asendK d)) true = 0 := by revert c d; decide
theorem lv_arecv (c d : Dev nD) : lv (kcell (c, arecvK d)) true = 2 := by revert c d; decide

/-- A debt at levels above `b`, on TensorCore cells. -/
def Above (b : ℕ) (O : CellTallies nD τ sig Bool) : Prop := ∀ g i, 0 < O g i → b < lv g i ∧ i ∈ L g

theorem above_zero (b : ℕ) : Above b 0 := fun g i h => absurd h (Nat.lt_irrefl 0)
theorem above_add {b : ℕ} {O O' : CellTallies nD τ sig Bool} (h : Above b O) (h' : Above b O') : Above b (O + O') := fun g i hg => by
  rw [Pi.add_apply, Finsupp.add_apply] at hg
  rcases Nat.eq_zero_or_pos (O g i) with hz | hp
  · exact h' g i (by omega)
  · exact h g i hp
theorem above_tally (b : ℕ) (ck : Dev nD × Fin 17) (n : ℕ) (h : b < lv (kcell ck) true) : Above b (tallyAt (kcell ck) true n) := fun g i hg => by
  rw [tallyAt_apply] at hg
  by_cases hh : g = kcell ck ∧ i = true
  · rw [hh.1, hh.2]; exact ⟨h, by rw [L_tc]; exact Finset.mem_univ _⟩
  · rw [if_neg hh] at hg; exact absurd hg (Nat.lt_irrefl 0)

theorem above_oq (b : ℕ) (hb : b < 3) (c d : Dev nD) : Above b (oq c d) := above_tally b _ _ (by rw [lv_recv]; exact hb)
theorem above_oa (b : ℕ) (hb : b < 2) (c d : Dev nD) : Above b (oa c d) := above_tally b _ _ (by rw [lv_arecv]; exact hb)
theorem above_ob (b : ℕ) (hb : b < 1) (c d : Dev nD) : Above b (ob c d) := above_tally b _ _ (by rw [lv_bar]; exact hb)

theorem above_Oq3 (c : Dev nD) : Above 2 (Oq3 c) := above_oq 2 (by decide) c 3
theorem above_Oq2 (c : Dev nD) : Above 2 (Oq2 c) := above_add (above_Oq3 c) (above_oq 2 (by decide) c 2)
theorem above_Oq1 (c : Dev nD) : Above 2 (Oq1 c) := above_add (above_Oq2 c) (above_oq 2 (by decide) c 1)
theorem Above.mono {b b' : ℕ} {O : CellTallies nD τ sig Bool} (h : Above b O) (hb : b' ≤ b) : Above b' O :=
  fun g i hg => ⟨lt_of_le_of_lt hb (h g i hg).1, (h g i hg).2⟩
theorem above_Oa1 (c : Dev nD) : Above 1 (Oa1 c) :=
  above_add (above_add (above_add ((above_Oq1 c).mono (by decide)) (above_oa 1 (by decide) c 3)) (above_oa 1 (by decide) c 2)) (above_oa 1 (by decide) c 1)
theorem above_O₀ (c : Dev nD) : Above 0 (O₀ c) :=
  above_add (above_add (above_add ((above_Oa1 c).mono (by decide)) (above_ob 0 (by decide) c 3)) (above_ob 0 (by decide) c 2)) (above_ob 0 (by decide) c 1)

omit [FloatOps F] in
/-- A wait at a level the debt lies above is allowed. -/
theorem mayWait_above (c : Dev nD) (sm : SemLoc sig) (i : Bool) (b : ℕ) (hb : lv ((c : Thread nD τ), sm) i ≤ b) (O : CellTallies nD τ sig Bool) (h : Above b O) :
    (levAts L lv : sProp 𝕄) ⊢ MayWait (c : Thread nD τ) sm i O :=
  MayOwe.of_cut (L := L) (lev := lv) b (fun p hp => by rw [Finset.mem_singleton.mp hp, L_tc]; exact Finset.mem_univ _)
    (fun g i hg => (h g i hg).2) (fun p hp => by rw [Finset.mem_singleton.mp hp]; exact hb) (fun g i hg => (h g i hg).1)

omit [FloatOps F] in
/-- The copies inside a device may be waited for under anything the exchange owes. -/
theorem mayWaits_local (c : Dev nD) (O : CellTallies nD τ sig Bool) (h : Above 0 O) :
    (levAts L lv : sProp 𝕄) ⊢ Transfers.MayWaits (c : Thread nD τ) false O :=
  Transfers.MayWaits.intro fun sm => mayWait_above c sm false 0 (le_of_eq (if_pos rfl)) O h

end Cert.QK

end
-- ==== Proof.Slots.lean ====
/-
Reading back a staging slot after copies into the slots, and the bfloat16 copies of the operands assembled from them.
-/
module

public import proofs.«01_k».proof.Proof.Values
public import Idealize.ShloMosaic.Lib.Writes
public import Idealize.ShloMosaic.Lib.ViewIndex
public import Idealize.ShloMosaic.Lib.VecWindow
public import Idealize.ShloMosaic.Lib.Pipeline.Value

@[expose] public section

noncomputable section

namespace Cert.QK

open Cert.KernelIdeal Cert.KernelIdeal.Gen
open Idealize.ShloMosaic Idealize.ShloMosaic.Pipeline

section General

variable {sg : RefSig} {κ : Kind} {sp : Space} {s s' : Shape} {e : EltTy} {Val : EltTy → Type}

/-- A slot read after a copy into it, with the slot's axis dropped, is what was copied. -/
theorem slot_hit (m : Memref sg κ sp s e) (r : Rect s) (hs : ∀ a, r.stride a = 1) (hq : r.shape.Squeezes s')
    (hc : r.shape.ShapeCasts s') (g : m.view.ty.Contents Val) (w : s'.Idx → Val e) :
    shapeCast s' (m.view.readAt Val r.toLoadRect (((m.slice r hs).squeeze s' hq).view.write Val g w Finset.univ)) hc = w := by
  funext x
  exact View.read_write_reshape (m.view.slice r) hq.numel_eq g w x

/-- A slot read after a copy into another slot is what it was. -/
theorem slot_miss (m : Memref sg κ sp s e) (r r' : Rect s) (hs : ∀ a, r'.stride a = 1) (hq : r'.shape.Squeezes s')
    (hd : Disjoint r.set r'.set) (g : m.view.ty.Contents Val) (w : s'.Idx → Val e) :
    m.view.readAt Val r.toLoadRect (((m.slice r' hs).squeeze s' hq).view.write Val g w Finset.univ) = m.view.readAt Val r.toLoadRect g := by
  show m.view.readAt Val r.toLoadRect (((m.view.slice r').reshape s' hq.numel_eq).write Val g w Finset.univ) = _
  refine View.readAt_congr (v := m.view) fun i hi => ?_
  refine View.write_of_not_mem _ _ _ ?_
  rw [View.setOn_univ, View.set_reshape]
  intro hi'
  exact Finset.disjoint_left.mp (View.disjoint_slice (v := m.view) (r := r) (r' := r') hd) (by rw [View.set_slice]; exact hi) hi'

/-- A box just stored reads back as it was stored. -/
theorem readCov_head [∀ e, Nonempty (Val e)] (v : View sg κ sp s e) (r : Rect s) (w : r.shape.Idx → Val e) (L : List (View.Piece Val s e)) :
    v.readCov (⟨r, w⟩ :: L) r.toLoadRect = w :=
  funext fun x => View.read_writes_cons_emb v v.junk r w L x

/-- Unit rectangles that one axis tells apart are disjoint. -/
theorem unit_disjoint {off off' size size' : Fin s.rank → ℕ} (h : ∀ a, off a + size a ≤ s.size a)
    (h' : ∀ a, off' a + size' a ≤ s.size a) (a : Fin s.rank) (hd : off a + size a ≤ off' a ∨ off' a + size' a ≤ off a) :
    Disjoint (Rect.unit off size h).set (Rect.unit off' size' h').set := by
  refine Finset.disjoint_left.mpr fun y hy => ?_
  refine Rect.not_mem_set_of_axis _ y a (off' a) (size' a) rfl rfl rfl ?_
  obtain ⟨j, hj, hy'⟩ := (Rect.unit off size h).mem_set.mp hy a
  have e1 : (y a).val = off a + 1 * j := hy'
  have e2 : j < size a := hj
  omega

end General

variable {F : FTy → Type} [FloatOps F]

theorem x_disj01 : Disjoint (Rect.unit (s := S2x256x4096) ![0, 0, 0] S1x256x4096.size inb_S2x256x4096_S1x256x4096_0_0_0).set
    (Rect.unit (s := S2x256x4096) ![1, 0, 0] S1x256x4096.size inb_S2x256x4096_S1x256x4096_1_0_0).set :=
  unit_disjoint _ _ 0 (.inl (by decide))

theorem w_disj01 : Disjoint (Rect.unit (s := S2x4096x256) ![0, 0, 0] S1x4096x256.size inb_S2x4096x256_S1x4096x256_0_0_0).set
    (Rect.unit (s := S2x4096x256) ![1, 0, 0] S1x4096x256.size inb_S2x4096x256_S1x4096x256_1_0_0).set :=
  unit_disjoint _ _ 0 (.inl (by decide))

/-- The bfloat16 copy of the first operand, from its four row chunks. -/
theorem xb_cov {sg : RefSig} {κ : Kind} {sp : Space} (v : View sg κ sp S1024x4096 .bf16) (X : FVec F S1024x4096 .f32) (a b c d : Vec F S1x256x4096 .f32)
    (ha : shapeCast S256x4096 a shapeCasts_S1x256x4096_S256x4096 = xrows X 0)
    (hb : shapeCast S256x4096 b shapeCasts_S1x256x4096_S256x4096 = xrows X 1)
    (hc : shapeCast S256x4096 c shapeCasts_S1x256x4096_S256x4096 = xrows X 2)
    (hd : shapeCast S256x4096 d shapeCasts_S1x256x4096_S256x4096 = xrows X 3) :
    v.readCov (Val := Elt F) [⟨Rect.unit ![768, 0] S256x4096.size inb_S1024x4096_S256x4096_768_0, k0_pay4 d⟩,
      ⟨Rect.unit ![512, 0] S256x4096.size inb_S1024x4096_S256x4096_512_0, k0_pay3 c⟩,
      ⟨Rect.unit ![256, 0] S256x4096.size inb_S1024x4096_S256x4096_256_0, k0_pay2 b⟩,
      ⟨Rect.unit ![0, 0] S256x4096.size inb_S1024x4096_S256x4096_0_0, k0_pay1 a⟩]
      (Rect.unit ![0, 0] S1024x4096.size inb_S1024x4096_S1024x4096_0_0).toLoadRect = xb X := by
  have hp (u : Vec F S1x256x4096 .f32) (k : Fin 4) (hu : shapeCast S256x4096 u shapeCasts_S1x256x4096_S256x4096 = xrows X k) :
      ∀ x : S256x4096.Idx, k0_pay1 u x = xb X ((Rect.unit (s := S1024x4096) ![256 * k.val, 0] S256x4096.size (inb_xrows k)).emb x) := by
    intro x
    unfold k0_pay1
    rw [shapeCast_self, hu]
    rfl
  show v.readAt (Elt F) _ _ = _
  rw [View.readAt_full]
  funext y
  refine View.read_writes_apply_of_pieces (Val := Elt F) v _ (xb X) _ ?_ y ?_
  swap
  · exact View.cover_of_tiled (s := S1024x4096) _ S256x4096.size (by rfl) y
  intro p hp' x
  simp only [List.mem_cons, List.not_mem_nil, or_false] at hp'
  rcases hp' with rfl | rfl | rfl | rfl
  · exact hp d 3 hd x
  · exact hp c 2 hc x
  · exact hp b 1 hb x
  · exact hp a 0 ha x

/-- A slot of the bfloat16 copy of the second operand, just stored. -/
theorem wb_cov {sg : RefSig} {κ : Kind} {sp : Space} (v : View sg κ sp S2x4096x256 .bf16) (W : FVec F S4096x2048 .f32) (k : Fin 8) (off : Fin 3 → ℕ)
    (hin : ∀ a, off a + S1x4096x256.size a ≤ S2x4096x256.size a) (u : Vec F S1x4096x256 .f32)
    (L : List (View.Piece (Elt F) S2x4096x256 .bf16))
    (hu : shapeCast S4096x256 u shapeCasts_S1x4096x256_S4096x256 = wcols W k) :
    v.readCov (Val := Elt F) (⟨Rect.unit (s := S2x4096x256) off S1x4096x256.size hin, k0_pay5 u⟩ :: L) (Rect.unit (s := S2x4096x256) off S1x4096x256.size hin).toLoadRect = wb W k := by
  refine (readCov_head v _ _ L).trans ?_
  unfold wb k0_pay5
  rw [hu]

/-! Every chunk is the same function of its operands. -/

theorem pay7_eq (a : Vec F S1024x4096 .bf16) (b : Vec F S1x4096x256 .bf16) : k0_pay7 a b = k0_pay6 a b := by
  unfold k0_pay7
  exact shapeCast_self (k0_pay6 a b) _

theorem pay11_eq (a : Vec F S1024x4096 .bf16) (b : Vec F S1x4096x256 .bf16) : k0_pay11 a b = k0_pay6 a b := by
  unfold k0_pay11
  exact shapeCast_self (k0_pay10 a b) _

theorem pay15_eq (a : Vec F S1024x4096 .bf16) (b : Vec F S1x4096x256 .bf16) : k0_pay15 a b = k0_pay6 a b := by
  unfold k0_pay15
  exact shapeCast_self (k0_pay14 a b) _

theorem pay19_eq (a : Vec F S1024x4096 .bf16) (b : Vec F S1x4096x256 .bf16) : k0_pay19 a b = k0_pay6 a b := by
  unfold k0_pay19
  exact shapeCast_self (k0_pay18 a b) _

theorem pay23_eq (a : Vec F S1024x4096 .bf16) (b : Vec F S1x4096x256 .bf16) : k0_pay23 a b = k0_pay6 a b := by
  unfold k0_pay23
  exact shapeCast_self (k0_pay22 a b) _

theorem pay27_eq (a : Vec F S1024x4096 .bf16) (b : Vec F S1x4096x256 .bf16) : k0_pay27 a b = k0_pay6 a b := by
  unfold k0_pay27
  exact shapeCast_self (k0_pay26 a b) _

theorem pay31_eq (a : Vec F S1024x4096 .bf16) (b : Vec F S1x4096x256 .bf16) : k0_pay31 a b = k0_pay6 a b := by
  unfold k0_pay31
  exact shapeCast_self (k0_pay30 a b) _

theorem pay35_eq (a : Vec F S1024x4096 .bf16) (b : Vec F S1x4096x256 .bf16) : k0_pay35 a b = k0_pay6 a b := by
  unfold k0_pay35
  exact shapeCast_self (k0_pay34 a b) _

/-- The rectified product from its eight chunks. -/
theorem y_writes {sg : RefSig} {κ : Kind} {sp : Space} (v : View sg κ sp S1024x2048 .f32) (X : FVec F S1024x4096 .f32) (W : FVec F S4096x2048 .f32)
    (f : v.ty.Contents (Elt F)) (w0 w1 w2 w3 w4 w5 w6 w7 : Vec F S1024x256 .f32)
    (h0 : w0 = yc X W 0) (h1 : w1 = yc X W 1) (h2 : w2 = yc X W 2) (h3 : w3 = yc X W 3) (h4 : w4 = yc X W 4) (h5 : w5 = yc X W 5)
    (h6 : w6 = yc X W 6) (h7 : w7 = yc X W 7) :
    v.read (Elt F) (v.writes (Elt F) f [⟨Rect.unit ![0, 1792] S1024x256.size inb_S1024x2048_S1024x256_0_1792, w7⟩,
      ⟨Rect.unit ![0, 1536] S1024x256.size inb_S1024x2048_S1024x256_0_1536, w6⟩,
      ⟨Rect.unit ![0, 1280] S1024x256.size inb_S1024x2048_S1024x256_0_1280, w5⟩,
      ⟨Rect.unit ![0, 1024] S1024x256.size inb_S1024x2048_S1024x256_0_1024, w4⟩,
      ⟨Rect.unit ![0, 768] S1024x256.size inb_S1024x2048_S1024x256_0_768, w3⟩,
      ⟨Rect.unit ![0, 512] S1024x256.size inb_S1024x2048_S1024x256_0_512, w2⟩,
      ⟨Rect.unit ![0, 256] S1024x256.size inb_S1024x2048_S1024x256_0_256, w1⟩,
      ⟨Rect.unit ![0, 0] S1024x256.size inb_S1024x2048_S1024x256_0_0, w0⟩]) = yAll X W := by
  have hy (k : Fin 8) (o : ℕ) (ho : o = 256 * k.val) (hin : ∀ a, (![0, o] : Fin 2 → ℕ) a + S1024x256.size a ≤ S1024x2048.size a)
      (x : S1024x256.Idx) : yc X W k x = yAll X W ((Rect.unit (s := S1024x2048) ![0, o] S1024x256.size hin).emb x) := by
    subst ho
    have hx : (x 1).val < 256 := (x 1).isLt
    unfold yAll
    have e1 : ((((Rect.unit (s := S1024x2048) ![0, 256 * k.val] S1024x256.size hin).emb x) 1).val) = 256 * k.val + 1 * (x 1).val := rfl
    have e0 : ((((Rect.unit (s := S1024x2048) ![0, 256 * k.val] S1024x256.size hin).emb x) 0).val) = 0 + 1 * (x 0).val := rfl
    have hk : chunkOf ((Rect.unit (s := S1024x2048) ![0, 256 * k.val] S1024x256.size hin).emb x) = k := by
      apply Fin.ext
      show _ / 256 = k.val
      rw [e1]; omega
    have hx' : inChunk ((Rect.unit (s := S1024x2048) ![0, 256 * k.val] S1024x256.size hin).emb x) = x := by
      funext a
      apply Fin.ext
      match a with
      | ⟨0, _⟩ => show _ = (x 0).val; rw [← Nat.one_mul (x 0).val, ← Nat.zero_add (1 * (x 0).val)]; exact e0
      | ⟨1, _⟩ => show _ % 256 = (x 1).val; rw [e1]; omega
    rw [hk, hx']
  funext y
  refine View.read_writes_apply_of_pieces v f (yAll X W) _ ?_ y ?_
  swap
  · exact View.cover_of_tiled (s := S1024x2048) _ S1024x256.size (by rfl) y
  subst h0 h1 h2 h3 h4 h5 h6 h7
  intro p hp' x
  simp only [List.mem_cons, List.not_mem_nil, or_false] at hp'
  rcases hp' with rfl | rfl | rfl | rfl | rfl | rfl | rfl | rfl
  · exact hy 7 1792 rfl inb_S1024x2048_S1024x256_0_1792 x
  · exact hy 6 1536 rfl inb_S1024x2048_S1024x256_0_1536 x
  · exact hy 5 1280 rfl inb_S1024x2048_S1024x256_0_1280 x
  · exact hy 4 1024 rfl inb_S1024x2048_S1024x256_0_1024 x
  · exact hy 3 768 rfl inb_S1024x2048_S1024x256_0_768 x
  · exact hy 2 512 rfl inb_S1024x2048_S1024x256_0_512 x
  · exact hy 1 256 rfl inb_S1024x2048_S1024x256_0_256 x
  · exact hy 0 0 rfl inb_S1024x2048_S1024x256_0_0 x

end Cert.QK

end
-- ==== Proof.Rules.lean ====
/-
The steps of the exchange, one rule for each kind: a signal, the wait for the signals, a send, a wait for what was sent or
received. Each is stated at a device `c` and takes what it needs one piece at a time.
-/
module

public import proofs.«01_k».proof.Proof.Sched
public import proofs.«01_k».proof.Proof.Slots

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32)

/-! ## What every device knows -/

/-- The cells' invariants, that their first round is open, and the levels. -/
def records (K : Dev nD × Fin 17 → ℕ) : sProp 𝕄 :=
  iprop((bigSep (Finset.univ : Finset (Dev nD × Fin 17)) fun ck => cellInv ER (Rd X W) (K ck) (kcell ck))
    ∗ (bigSep (Finset.univ : Finset (Dev nD × Fin 17)) fun ck => reached ER (kcell ck) 0) ∗ levAts L lv)

instance records_persistent (K : Dev nD × Fin 17 → ℕ) : Persistent (records X W K : sProp 𝕄) := by
  unfold records; infer_instance

theorem inv_at (K : Dev nD × Fin 17 → ℕ) (ck : Dev nD × Fin 17) : (records X W K : sProp 𝕄) ⊢ cellInv ER (Rd X W) (K ck) (kcell ck) := by
  unfold records
  iintro ⟨H, -, -⟩
  iapply (show _ ⊢ _ from BI.bigSep_elim (Φ := fun ck => cellInv ER (Rd X W) (K ck) (kcell ck)) (Finset.mem_univ ck)); iexact H
theorem reached_at (K : Dev nD × Fin 17 → ℕ) (ck : Dev nD × Fin 17) : (records X W K : sProp 𝕄) ⊢ reached ER (kcell ck) 0 := by
  unfold records
  iintro ⟨-, H, -⟩
  iapply (show _ ⊢ _ from BI.bigSep_elim (Φ := fun ck => (reached ER (kcell ck) 0 : sProp 𝕄)) (Finset.mem_univ ck)); iexact H
theorem levs_at (K : Dev nD × Fin 17 → ℕ) : (records X W K : sProp 𝕄) ⊢ levAts L lv := by
  unfold records
  iintro ⟨-, -, H⟩
  iexact H

/-- What device `c` owes, whatever it has waited for. -/
def owesE (c : Dev nD) (O : CellTallies nD τ sig Bool) : sProp 𝕄 := iprop(∃ V : Waits sig Bool, owes (c : Thread nD τ) O V)

theorem owesE_intro (c : Dev nD) (O : CellTallies nD τ sig Bool) (V : Waits sig Bool) : (owes (c : Thread nD τ) O V : sProp 𝕄) ⊢ owesE c O := by
  unfold owesE
  iintro H
  iexists V
  iexact H

/-- The weakest precondition at device `c`'s TensorCore. -/
abbrev WP (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

variable (K : Dev nD × Fin 17 → ℕ)

theorem ne_pr (c d : Dev nD) (hd : d.val ≠ 0) : c ≠ pr c d := by revert c d; decide

/-- A signal to the device `d` places on. -/
theorem sig_step {α : Type} {Q : α → sProp 𝕄} (c d n : Dev nD) (hd : d.val ≠ 0) (hn : n = pr c d) (s : Sem sig) (hs : s = barS) (k' : ℕ) (hk : k' = 1)
    (O O' : CellTallies nD τ sig Bool) (hO : O' = O + ob c d) {k : PUnit → Prog (TpuEff nD τ sig (Elt F) Λ₀ .tc) α} :
    (records X W K : sProp 𝕄) ⊢ iprop(owesE c O' -∗ dutyTok ER (kcell (pr c d, 0)) 0 c -∗ barPay c (pr c d)
      -∗ (owesE c O -∗ WP c (k ⟨⟩) Q) -∗ WP c (.op (.semSignal (n : Thread nD τ) s k') k) Q) := by
  subst hn hs hk
  iintro #HR Ho Ht Hp Hk
  unfold owesE
  icases Ho with ⟨%V, Ho⟩
  iapply (Rounds.wp_signal 𝒱₀ ER (Rd X W) (c : Thread nD τ) none (dst := ((pr c d : Dev nD) : Thread nD τ)) (sem := barS) (r := 0) (κ := K (pr c d, 0)) (d := c)
    (by rw [show (((pr c d : Dev nD) : Thread nD τ), SemLoc.reg barS) = kcell (pr c d, 0) from rfl, duties_bar]; exact Finset.mem_erase.mpr ⟨ne_pr c d hd, Finset.mem_univ _⟩)
    (amount_bar X W (pr c d) c) true O hO (W := V)) $$ [Ho Ht Hp] [Hk]
  · isplitr
    · iapply (inv_at X W K (pr c d, 0)); iexact HR
    isplitl [Ho]; · iexact Ho
    isplitl [Ht]; · iexact Ht
    isplitl [Hp]
    · iapply (show barPay c (pr c d) ⊢ (Rd X W).payload (((pr c d : Dev nD) : Thread nD τ), SemLoc.reg barS) 0 c from
        Entails.of_eq (payload_bar X W (pr c d) c).symm); iexact Hp
    iapply (reached_at X W K (pr c d, 0)); iexact HR
  iintro Ho
  iapply Hk
  iexists V
  iexact Ho

/-- The wait for the three signals: the other devices' slots for this device's blocks are free. -/
theorem bar_step {α : Type} {Q : α → sProp 𝕄} (c : Dev nD) (s : Sem sig) (hs : s = barS) (k' : ℕ) (hk : k' = 3)
    (O : CellTallies nD τ sig Bool) (hO : Above 1 O) {k : PUnit → Prog (TpuEff nD τ sig (Elt F) Λ₀ .tc) α} :
    (records X W K : sProp 𝕄) ⊢ iprop(owesE c O -∗ cred (tallyAt (kcell (c, 0)) true 3) -∗ atPos ER (kcell (c, 0)) 0 ∅ 0
      -∗ ((owesE c O ∗ atPos ER (kcell (c, 0)) 1 ∅ 0 ∗ barPay (pr c 1) c ∗ barPay (pr c 2) c ∗ barPay (pr c 3) c) -∗ WP c (k ⟨⟩) Q)
      -∗ WP c (.op (.semWait s k') k) Q) := by
  subst hs hk
  iintro #HR Ho Hc Ha Hk
  unfold owesE
  icases Ho with ⟨%V, Ho⟩
  iapply (Rounds.wp_wait_rest_token 𝒱₀ ER (Rd X W) (c : Thread nD τ) none (κ := K (c, 0)) (sm := .reg barS)
    (wpE_semWait_eq 𝒱₀ (c : Thread nD τ) none Set.univ) (Set.mem_univ _) true (O := O) (W := V) (R := 0) (m := 0) (T := ∅)
    ((Nat.zero_add 3).trans (expect_bar X W c).symm)) $$ [Ho Hc Ha] [Hk]
  · isplitr
    · iapply (inv_at X W K (c, 0)); iexact HR
    isplitl [Hc]; · iexact Hc
    isplitl [Ho]; · iexact Ho
    isplitr
    · iapply (mayWait_above c (.reg barS) true 1 (le_of_eq (lv_bar c)) O hO); iapply (levs_at X W K); iexact HR
    iexact Ha
  iintro ⟨Ho, Ha, -, Hp⟩
  iapply Hk
  isplitl [Ho]; · iexists _; iexact Ho
  isplitl [Ha]; · iexact Ha
  iapply (Entails.of_eq (rest_bar X W c)); iexact Hp

/-- A wait for a whole round of one of the other cells, by a copy's size. -/
theorem wait_step {α : Type} {Q : α → sProp 𝕄} (c : Dev nD) (j : Fin 17) (N b : ℕ) {s : Shape} {e : EltTy} {s' : Shape} {e' : EltTy} {sp sp' : Space}
    {κ' : Kind} (sem : DmaSem sig) (hs : (SemLoc.dma sem : SemLoc sig) = csem j)
    {srcw : Memref sig .tc sp' s' e'} {dstw : Memref sig κ' sp s e} {hsrc : srcw.view.WordExact} {hdst : dstw.view.WordExact}
    (hN : dstw.view.dmaCredit = N) (hexp : (Rd X W).expect (kcell (c, j)) 0 = N) (hlv : lv (kcell (c, j)) true ≤ b)
    (O : CellTallies nD τ sig Bool) (hO : Above b O) (P : sProp 𝕄)
    (hP : bigSep ((Rd X W).duties (kcell (c, j)) 0 \ ∅) (fun e => (Rd X W).payload (kcell (c, j)) 0 e) = P)
    {k : PUnit → Prog (TpuEff nD τ sig (Elt F) Λ₀ .tc) α} :
    (records X W K : sProp 𝕄) ⊢ iprop(owesE c O -∗ cred (tallyAt (kcell (c, j)) true N) -∗ atPos ER (kcell (c, j)) 0 ∅ 0
      -∗ ((owesE c O ∗ atPos ER (kcell (c, j)) 1 ∅ 0 ∗ P) -∗ WP c (k ⟨⟩) Q)
      -∗ WP c (.op (.waitDma2 sem srcw dstw hsrc hdst) k) Q) := by
  subst hN hP
  have hg : (((c : Dev nD) : Thread nD τ), (SemLoc.dma sem : SemLoc sig)) = kcell (c, j) := by rw [hs]
  rw [← hg] at hexp hlv ⊢
  iintro #HR Ho Hc Ha Hk
  unfold owesE
  icases Ho with ⟨%V, Ho⟩
  iapply (Rounds.wp_wait_rest_token 𝒱₀ ER (Rd X W) (c : Thread nD τ) none (κ := K (c, j)) (sm := .dma sem)
    (wpE_waitDma2_eq 𝒱₀ (c : Thread nD τ) none Set.univ) (Set.mem_univ _) true (O := O) (W := V) (R := 0) (m := 0) (T := ∅)
    ((Nat.zero_add _).trans hexp.symm)) $$ [Ho Hc Ha] [Hk]
  · isplitr
    · rw [hg]; iapply (inv_at X W K (c, j)); iexact HR
    isplitl [Hc]; · iexact Hc
    isplitl [Ho]; · iexact Ho
    isplitr
    · iapply (mayWait_above c (.dma sem) true b hlv O hO); iapply (levs_at X W K); iexact HR
    iexact Ha
  iintro ⟨Ho, Ha, -, Hp⟩
  iapply Hk
  isplitl [Ho]; · iexists _; iexact Ho
  isplitl [Ha]; · iexact Ha
  iexact Hp

end Cert.QK

end
-- ==== Proof.Mem.lean ====
/-
The memory of the exchange: what a slot reads once the contents of its buffer are known, a buffer cut into its slots and put
together again, and the loads and stores of slots.
-/
module

public import proofs.«01_k».proof.Proof.Rules
public import Idealize.ShloMosaic.Lib.ValueLayout

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

/-! ## Views -/

/-- What a view writes agrees, on its elements, with contents that the view reads as what is written. -/
theorem write_agree {sg : RefSig} {κ : Kind} {sp : Space} {s : Shape} {e : EltTy} {Val : EltTy → Type} (v : View sg κ sp s e)
    (f G : v.ty.Contents Val) (w : s.Idx → Val e) (hG : v.read Val G = w) : ∀ i ∈ v.set, v.write Val f w Finset.univ i = G i := by
  intro i hi
  obtain ⟨x, -, rfl⟩ := Finset.mem_map.mp hi
  rw [View.write_emb_of_mem (h := Finset.mem_univ x), ← hG, View.read_apply, cast_cast, cast_eq]

/-! ## The places of the slots -/

/-- The place of a 1024-by-512 block inside a one-slot block of the buffer of two. -/
def dqIx (i : S2x1024x512.Idx) : S1x1024x512.Idx :=
  fun a => match a with
    | ⟨0, _⟩ => ⟨0, Nat.one_pos⟩
    | ⟨1, _⟩ => ⟨(i 1).val, (i 1).isLt⟩
    | ⟨2, _⟩ => ⟨(i 2).val, (i 2).isLt⟩

theorem unit_emb_val {s : Shape} (off size : Fin s.rank → ℕ) (h : ∀ a, off a + size a ≤ s.size a) (y : (Rect.unit off size h).shape.Idx) (a : Fin s.rank) :
    ((Rect.unit off size h).emb y a).val = off a + 1 * (y a).val := rfl

theorem slotIx_emb (s : Dev nD) (y : S1x1024x512.Idx) : slotIx ((Rect.unit (s := S4x1024x512) ![s.val, 0, 0] S1x1024x512.size (inb_rv s)).emb y) = y := by
  funext a
  apply Fin.ext
  match a with
  | ⟨0, _⟩ => have : (y 0).val < 1 := (y 0).isLt; show 0 = (y 0).val; omega
  | ⟨1, _⟩ => show 0 + 1 * (y 1).val = (y 1).val; omega
  | ⟨2, _⟩ => show 0 + 1 * (y 2).val = (y 2).val; omega

theorem dqIx_emb (k : Fin 2) (y : S1x1024x512.Idx) : dqIx ((Rect.unit (s := S2x1024x512) ![k.val, 0, 0] S1x1024x512.size (inb_dq k)).emb y) = y := by
  funext a
  apply Fin.ext
  match a with
  | ⟨0, _⟩ => have : (y 0).val < 1 := (y 0).isLt; show 0 = (y 0).val; omega
  | ⟨1, _⟩ => show 0 + 1 * (y 1).val = (y 1).val; omega
  | ⟨2, _⟩ => show 0 + 1 * (y 2).val = (y 2).val; omega

theorem slot_emb0 (s : Dev nD) (y : S1x1024x512.Idx) :
    (⟨((Rect.unit (s := S4x1024x512) ![s.val, 0, 0] S1x1024x512.size (inb_rv s)).emb y 0).val, ((Rect.unit (s := S4x1024x512) ![s.val, 0, 0] S1x1024x512.size (inb_rv s)).emb y 0).isLt⟩ : Dev nD) = s := by
  apply Fin.ext
  have : (y 0).val < 1 := (y 0).isLt
  show s.val + 1 * (y 0).val = s.val
  omega

theorem am_emb0 (s : Dev nD) (y : S1x8x128.Idx) :
    (⟨((Rect.unit (s := S4x8x128) ![s.val, 0, 0] S1x8x128.size (inb_am s)).emb y 0).val, ((Rect.unit (s := S4x8x128) ![s.val, 0, 0] S1x8x128.size (inb_am s)).emb y 0).isLt⟩ : Dev nD) = s := by
  apply Fin.ext
  have : (y 0).val < 1 := (y 0).isLt
  show s.val + 1 * (y 0).val = s.val
  omega

theorem rowsOf_emb (s : Dev nD) (x : S1024x512.Idx) : rowsOf ((Rect.unit (s := S4096x512) ![1024 * s.val, 0] S1024x512.size (inb_or s)).emb x) = s := by
  apply Fin.ext
  have : (x 0).val < 1024 := (x 0).isLt
  show (1024 * s.val + 1 * (x 0).val) / 1024 = s.val
  omega

theorem inRows_emb (s : Dev nD) (x : S1024x512.Idx) (h : S1024x512.numel = S1x1024x512.numel) :
    inRows ((Rect.unit (s := S4096x512) ![1024 * s.val, 0] S1024x512.size (inb_or s)).emb x) = Shape.reshapeEquiv h x := by
  have hr : Shape.reshapeEquiv h x = ValueIdx.ix3 (⟨0, Nat.one_pos⟩ : Fin 1) (x 0) (x 1) := by
    conv_lhs => rw [ValueIdx.eq_ix2 x]
    exact ValueIdx.reshapeEquiv_ix2_1ab h (x 0) (x 1)
  rw [hr]
  have h0 : (x 0).val < 1024 := (x 0).isLt
  funext a
  apply Fin.ext
  match a with
  | ⟨0, _⟩ => rfl
  | ⟨1, _⟩ => show (1024 * s.val + 1 * (x 0).val) % 1024 = (x 0).val; omega
  | ⟨2, _⟩ => show 0 + 1 * (x 1).val = (x 1).val; omega

/-! ## The contents -/

variable (X : Dev nD → FVec F S1024x4096 .f32) (W : Dev nD → FVec F S4096x2048 .f32)

/-- What device `c` sends: in slot `d` its block for the device `d` places on. -/
def qs (c : Dev nD) : IVec S4x1024x512 8 := fun i => qblk X W c (pr c ⟨(i 0).val, (i 0).isLt⟩) (slotIx i)

/-- The row block of device `s` in device `c`'s result, as either slot holds it. -/
def dqC (c s : Dev nD) : FVec F S2x1024x512 .f32 := fun i => oblk X W c s (dqIx i)

theorem read_am (c : Dev nD) : (amM c).view.read (Elt F) (amaxAll X W) = asM.view.read (Elt F) (fun _ => lmax (X c) (W c)) := by
  funext x
  show amaxAll X W ((Rect.unit (s := S4x8x128) ![c.val, 0, 0] S1x8x128.size (inb_am c)).emb _) = lmax (X c) (W c)
  unfold amaxAll
  rw [am_emb0]

theorem read_rv (c d : Dev nD) : (rvM c).view.read (Elt F) (rAll X W (pr c d)) = (sdM d).view.read (Elt F) (qs X W c) := by
  funext x
  show rAll X W (pr c d) ((Rect.unit (s := S4x1024x512) ![c.val, 0, 0] S1x1024x512.size (inb_rv c)).emb (Shape.reshapeEquiv _ x))
    = qs X W c ((Rect.unit (s := S4x1024x512) ![d.val, 0, 0] S1x1024x512.size (inb_rv d)).emb (Shape.reshapeEquiv _ x))
  unfold rAll qs
  rw [slotIx_emb, slotIx_emb, slot_emb0, slot_emb0]

theorem read_or (c s : Dev nD) (k : Fin 2) : (orM s).view.read (Elt F) (outAll X W c) = (dqM k).view.read (Elt F) (dqC X W c s) := by
  funext x
  show outAll X W c ((Rect.unit (s := S4096x512) ![1024 * s.val, 0] S1024x512.size (inb_or s)).emb x)
    = dqC X W c s ((Rect.unit (s := S2x1024x512) ![k.val, 0, 0] S1x1024x512.size (inb_dq k)).emb (Shape.reshapeEquiv squeezes_S1x1024x512_S1024x512.numel_eq x))
  unfold outAll dqC
  rw [dqIx_emb, rowsOf_emb, inRows_emb]

theorem acc_am (c : Dev nD) : ((Memref.whole cc0_scratch9).access (Rect.unit (s := S4x8x128) ![c.val, 0, 0] S1x8x128.size (inb_am c))).read (Elt F) (amaxAll X W)
    = k0_pay38 (fun _ => lmax (X c) (W c)) := by
  funext x
  show amaxAll X W ((Rect.unit (s := S4x8x128) ![c.val, 0, 0] S1x8x128.size (inb_am c)).emb _) = lmax (X c) (W c)
  unfold amaxAll
  rw [am_emb0]

theorem acc_sd (c d : Dev nD) : ((Memref.whole cc0_scratch5).access (Rect.unit (s := S4x1024x512) ![d.val, 0, 0] S1x1024x512.size (inb_rv d))).read (Elt F) (qs X W c)
    = qblk X W c (pr c d) := by
  funext x
  show qs X W c ((Rect.unit (s := S4x1024x512) ![d.val, 0, 0] S1x1024x512.size (inb_rv d)).emb x) = _
  unfold qs
  rw [slotIx_emb, slot_emb0]

theorem acc_rv (c s : Dev nD) : ((Memref.whole cc0_scratch6).access (Rect.unit (s := S4x1024x512) ![s.val, 0, 0] S1x1024x512.size (inb_rv s))).read (Elt F) (rAll X W c)
    = qblk X W s c := by
  funext x
  show rAll X W c ((Rect.unit (s := S4x1024x512) ![s.val, 0, 0] S1x1024x512.size (inb_rv s)).emb x) = _
  unfold rAll
  rw [slotIx_emb, slot_emb0]

theorem acc_dq (c s : Dev nD) (k : Fin 2) : ((Memref.whole cc0_scratch7).access (Rect.unit (s := S2x1024x512) ![k.val, 0, 0] S1x1024x512.size (inb_dq k))).read (Elt F) (dqC X W c s)
    = oblk X W c s := by
  funext x
  show dqC X W c s ((Rect.unit (s := S2x1024x512) ![k.val, 0, 0] S1x1024x512.size (inb_dq k)).emb x) = _
  unfold dqC
  rw [dqIx_emb]

theorem acc_y (c p : Dev nD) : ((Memref.whole cc0_scratch4).access (Rect.unit (s := S1024x2048) ![0, 512 * p.val] S1024x512.size (inb_yblk p))).read (Elt F) (yAll (X c) (W c))
    = yblk X W c p := rfl

end Cert.QK

end
-- ==== Proof.Steps.lean ====
/-
The sends, the loads and stores of slots, the copies of row blocks into the result, and buffers cut into slots.
-/
module

public import proofs.«01_k».proof.Proof.Mem

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

/-! ## Sends -/

/-- The exchange's copies count on DMA semaphores. -/
theorem amount_csem {κ : Kind} {sp : Space} {s : Shape} {e : EltTy} (v : View sig κ sp s e) (k : Fin 17) (h : k.val ≠ 0) : v.amount (csem k) = v.dmaCredit := by
  unfold csem
  rw [if_neg h]

theorem credit_am (c : Dev nD) : (amM c).view.dmaCredit = Na := rfl
theorem credit_rv (c : Dev nD) : (rvM c).view.dmaCredit = Nq := rfl
theorem credit_sd (d : Dev nD) : (sdM d).view.dmaCredit = Nq := rfl

theorem sent_am (p c : Dev nD) (f : FVec F S4x8x128 .f32) :
    ((amM c).view.loc (p : Thread nD τ) ↦[(amM c).view.set]{fullShare} ((amM c).view.write (Elt F) f (asM.view.read (Elt F) (fun _ => lmax (X c) (W c))) Finset.univ) : sProp 𝕄)
      ⊢ arecvPay X W p c :=
  Entails.of_eq (pointsTo_congr (write_agree (Val := Elt F) (amM c).view f (amaxAll X W) _ (read_am X W c)))

theorem sent_rv (c d : Dev nD) (f : IVec S4x1024x512 8) :
    ((rvM c).view.loc ((pr c d : Dev nD) : Thread nD τ) ↦[(rvM c).view.set]{fullShare} ((rvM c).view.write (Elt F) f ((sdM d).view.read (Elt F) (qs X W c)) Finset.univ) : sProp 𝕄)
      ⊢ recvPay X W (pr c d) c :=
  Entails.of_eq (pointsTo_congr (write_agree (Val := Elt F) (rvM c).view f (rAll X W (pr c d)) _ (read_rv X W c d)))

theorem sent_sd (c d : Dev nD) (f : IVec S4x1024x512 8) : ((sdM d).view.loc (c : Thread nD τ) ↦[(sdM d).view.set]{fullShare} f : sProp 𝕄) ⊢ sendPay c d := by
  unfold sendPay sdPts
  iintro H
  iexists f
  iexact H

/-- The largest element sent to the device `d` places on. -/
theorem asend_step {α : Type} {Q : α → sProp 𝕄} (c d n : Dev nD) (hd : d.val ≠ 0) (hn : n = pr c d)
    (dst : Memref sig .tc .vmem S8x128 .f32) (hdst : dst = amM c) (sS sR : SemLoc sig) (hS : sS = csem (asendK d)) (hR : sR = csem (arecvK c))
    (O O' : CellTallies nD τ sig Bool) (hO : O' = O + oa c d) (f : FVec F S4x8x128 .f32)
    {hsc : dst.view.ref.isScScratch = false} {hsrc : asM.view.WordExact} {hdw : dst.view.WordExact}
    {hsem : DmaTarget.Typed .vmem sR (.remote (n : Thread nD τ) dst sS hsc)}
    {k : PUnit → Prog (TpuEff nD τ sig (Elt F) Λ₀ .tc) α} :
    (records X W K : sProp 𝕄) ⊢ iprop(owesE c O' -∗ asPts c (aq d) (fun _ => lmax (X c) (W c)) -∗ amPts (pr c d) c f
      -∗ dutyTok ER (kcell (c, asendK d)) 0 c -∗ dutyTok ER (kcell (pr c d, arecvK c)) 0 c
      -∗ ((owesE c O ∗ cred (tallyAt (kcell (c, asendK d)) true Na)) -∗ WP c (k ⟨⟩) Q)
      -∗ WP c (.op (.enqueueDma asM (.remote (n : Thread nD τ) dst sS hsc) sR hsrc hdw hsem) k) Q) := by
  subst hn hdst hS hR
  iintro #HR Ho Hs Hd Ht1 Ht2 Hk
  unfold owesE
  icases Ho with ⟨%V, Ho⟩
  unfold asPts amPts
  iapply (Rounds.wp_send_pointsTo 𝒱₀ ER (Rd X W) (c : Thread nD τ) none (κ₁ := K (c, asendK d)) (κ₂ := K (pr c d, arecvK c)) (r₁ := 0) (r₂ := 0) (d₁ := c) (d₂ := c) (fd := f)
    (c' := ((pr c d : Dev nD) : Thread nD τ)) (sS := csem (asendK d)) (sem := csem (arecvK c)) (q := aq d) (src := asM) (dst := amM c) (hsc := hsc) (hsrc := hsrc) (hdst := hdw) (hsem := hsem) (k := k) (Q := Q) (fs := fun _ => lmax (X c) (W c))
    (by rw [show (((c : Dev nD) : Thread nD τ), csem (asendK d)) = kcell (c, asendK d) from rfl, duties_asend X W c d hd]; exact Finset.mem_singleton_self _)
    (by rw [show (((pr c d : Dev nD) : Thread nD τ), csem (arecvK c)) = kcell (pr c d, arecvK c) from rfl, duties_arecv X W (pr c d) c (ne_pr c d hd)]; exact Finset.mem_singleton_self _)
    true true Na ((amount_csem (amM c).view (arecvK c) (by show 13 + c.val ≠ 0; omega)).trans (credit_am c))
    (amount_asend X W c d c) (amount_arecv X W (pr c d) c c) O hO (W := V)
    (Entails.of_eq (payload_asend X W c d c).symm)
    ((sent_am X W (pr c d) c f).trans (Entails.of_eq (payload_arecv X W (pr c d) c c).symm)))
    $$ [Ho Hs Hd Ht1 Ht2] [Hk]
  · isplitr
    · iapply (inv_at X W K (c, asendK d)); iexact HR
    isplitr
    · iapply (inv_at X W K (pr c d, arecvK c)); iexact HR
    isplitl [Hs]; · iexact Hs
    isplitl [Hd]; · iexact Hd
    isplitl [Ho]; · iexact Ho
    isplitl [Ht1]; · iexact Ht1
    isplitr
    · iapply (reached_at X W K (c, asendK d)); iexact HR
    isplitl [Ht2]; · iexact Ht2
    iapply (reached_at X W K (pr c d, arecvK c)); iexact HR
  iintro ⟨Hc, Ho⟩
  iapply Hk
  isplitl [Ho]; · iexists V; iexact Ho
  iexact Hc

/-- A quantised block sent to the device `d` places on. -/
theorem qsend_step {α : Type} {Q : α → sProp 𝕄} (c d n : Dev nD) (hd : d.val ≠ 0) (hn : n = pr c d)
    (src dst : Memref sig .tc .vmem S1024x512 .i8) (hsr : src = sdM d) (hdst : dst = rvM c) (sS sR : SemLoc sig) (hS : sS = csem (sendK d)) (hR : sR = csem (recvK c))
    (O O' : CellTallies nD τ sig Bool) (hO : O' = O + oq c d) (f : IVec S4x1024x512 8)
    {hsc : dst.view.ref.isScScratch = false} {hsrc : src.view.WordExact} {hdw : dst.view.WordExact}
    {hsem : DmaTarget.Typed .vmem sR (.remote (n : Thread nD τ) dst sS hsc)}
    {k : PUnit → Prog (TpuEff nD τ sig (Elt F) Λ₀ .tc) α} :
    (records X W K : sProp 𝕄) ⊢ iprop(owesE c O' -∗ sdPts c d (qs X W c) -∗ rvPts (pr c d) c f
      -∗ dutyTok ER (kcell (c, sendK d)) 0 c -∗ dutyTok ER (kcell (pr c d, recvK c)) 0 c
      -∗ ((owesE c O ∗ cred (tallyAt (kcell (c, sendK d)) true Nq)) -∗ WP c (k ⟨⟩) Q)
      -∗ WP c (.op (.enqueueDma src (.remote (n : Thread nD τ) dst sS hsc) sR hsrc hdw hsem) k) Q) := by
  subst hn hsr hdst hS hR
  iintro #HR Ho Hs Hd Ht1 Ht2 Hk
  unfold owesE
  icases Ho with ⟨%V, Ho⟩
  unfold sdPts rvPts
  iapply (Rounds.wp_send_pointsTo 𝒱₀ ER (Rd X W) (c : Thread nD τ) none (κ₁ := K (c, sendK d)) (κ₂ := K (pr c d, recvK c)) (r₁ := 0) (r₂ := 0) (d₁ := c) (d₂ := c) (fd := f)
    (c' := ((pr c d : Dev nD) : Thread nD τ)) (sS := csem (sendK d)) (sem := csem (recvK c)) (q := fullShare) (src := sdM d) (dst := rvM c) (hsc := hsc) (hsrc := hsrc) (hdst := hdw) (hsem := hsem) (k := k) (Q := Q) (fs := qs X W c)
    (by rw [show (((c : Dev nD) : Thread nD τ), csem (sendK d)) = kcell (c, sendK d) from rfl, duties_send X W c d hd]; exact Finset.mem_singleton_self _)
    (by rw [show (((pr c d : Dev nD) : Thread nD τ), csem (recvK c)) = kcell (pr c d, recvK c) from rfl, duties_recv X W (pr c d) c (ne_pr c d hd)]; exact Finset.mem_singleton_self _)
    true true Nq ((amount_csem (rvM c).view (recvK c) (by show 5 + c.val ≠ 0; omega)).trans (credit_rv c))
    (amount_send X W c d c) (amount_recv X W (pr c d) c c) O hO (W := V)
    ((sent_sd c d (qs X W c)).trans (Entails.of_eq (payload_send X W c d c).symm))
    ((sent_rv X W c d f).trans (Entails.of_eq (payload_recv X W (pr c d) c c).symm)))
    $$ [Ho Hs Hd Ht1 Ht2] [Hk]
  · isplitr
    · iapply (inv_at X W K (c, sendK d)); iexact HR
    isplitr
    · iapply (inv_at X W K (pr c d, recvK c)); iexact HR
    isplitl [Hs]; · iexact Hs
    isplitl [Hd]; · iexact Hd
    isplitl [Ho]; · iexact Ho
    isplitl [Ht1]; · iexact Ht1
    isplitr
    · iapply (reached_at X W K (c, sendK d)); iexact HR
    isplitl [Ht2]; · iexact Ht2
    iapply (reached_at X W K (pr c d, recvK c)); iexact HR
  iintro ⟨Hc, Ho⟩
  iapply Hk
  isplitl [Ho]; · iexists V; iexact Ho
  iexact Hc

end Cert.QK

end
-- ==== Proof.Slots2.lean ====
/-
Loads and stores of slots, the copies of row blocks into the result, and buffers cut into their slots and put together again.
-/
module

public import proofs.«01_k».proof.Proof.Steps

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

/-! ## Loads and stores -/

theorem set_slot {b : Ref sig .tc} {s' : Shape} (r : Rect b.ty.shape) (hst : ∀ a, r.stride a = 1) (hq : r.shape.Squeezes s') :
    (((Memref.whole b).slice r hst).squeeze s' hq).view.set = ((Memref.whole b).access r).set := View.set_reshape _ _

/-- A store of a slot, to contents that the slot reads as what is stored. -/
theorem store_slot {α : Type} {Q : α → sProp 𝕄} (c : Dev nD) {cs : CoreSpace} {s : Shape} {e : EltTy} (m : Memref sig .tc cs s e) (r : Rect s)
    (S : Finset (Idx (m.view.loc (c : Thread nD τ)))) (hS : (m.access r).set ⊆ S) (hS' : S ⊆ (m.access r).set) (f G : Buf (Elt F) (m.view.loc (c : Thread nD τ))) (w : r.shape.Idx → Elt F e)
    (hG : (m.access r).read (Elt F) G = w) {hx : (m.access r).Stores Finset.univ} {hm : (Finset.univ : Finset r.shape.Idx) = Finset.univ ∨ ∀ a, r.stride a = 1}
    {k : PUnit → Prog (TpuEff nD τ sig (Elt F) Λ₀ .tc) α} :
    (m.view.loc (c : Thread nD τ) ↦[S]{fullShare} f : sProp 𝕄) ⊢ iprop(((m.view.loc (c : Thread nD τ) ↦[S]{fullShare} G) -∗ WP c (k ⟨⟩) Q)
      -∗ WP c (.op (.store m r w Finset.univ hx hm) k) Q) := by
  obtain rfl := Finset.Subset.antisymm hS hS'
  iintro H Hk
  iapply (wp_store (m := m) (r := r) (Mk := Finset.univ) (f := f) 𝒱₀ (c : Thread nD τ) none Set.univ (by rw [View.setOn_univ])) $$ [H] [Hk]
  · iexact H
  iintro H
  iapply Hk
  iapply (Entails.of_eq (pointsTo_congr (write_agree (Val := Elt F) (m.access r) f G w hG))); iexact H

/-- A load of a slot. -/
theorem load_slot {α : Type} {Q : α → sProp 𝕄} (c : Dev nD) {cs : CoreSpace} {s : Shape} {e : EltTy} (m : Memref sig .tc cs s e) (r : Rect s)
    (S : Finset (Idx (m.view.loc (c : Thread nD τ)))) (hS : (m.access r).set ⊆ S) (f : Buf (Elt F) (m.view.loc (c : Thread nD τ))) (w : r.shape.Idx → Elt F e)
    (hw : (m.access r).read (Elt F) f = w) {hl : m.view.LoadsAt r.toLoadRect} {q : PosShare TreeShare}
    {k : (r.shape.Idx → Elt F e) → Prog (TpuEff nD τ sig (Elt F) Λ₀ .tc) α} :
    (m.view.loc (c : Thread nD τ) ↦[S]{q} f : sProp 𝕄) ⊢ iprop(((m.view.loc (c : Thread nD τ) ↦[S]{q} f) -∗ WP c (k w) Q)
      -∗ WP c (.op (.load m r.toLoadRect hl) k) Q) := by
  subst hw
  exact wp_load_rect (m := m) (r := r) (f := f) 𝒱₀ (c : Thread nD τ) none Set.univ hS

/-! ## The copies into the result -/

/-- The semaphores of the copies into the result. -/
def outS (k : Fin 2) : SemLoc sig := .dma ⟨4 + k.val, by have := k.isLt; show _ < 22; omega⟩

/-- A row block's credit. -/
abbrev No : ℕ := (orM 0).view.dmaCredit
theorem No_pos : 0 < No := View.dmaCredit_pos _ (by decide)

/-- Row block `s` on its way into the result, out of slot `k`. -/
def outFl (c s : Dev nD) (k : Fin 2) : sProp 𝕄 :=
  iprop(∃ f : FVec F S4096x512 .f32, Transfers.Flight countersEmb (c : Thread nD τ) (outS k) false No
    iprop(((orM s).view.loc (c : Thread nD τ) ↦[(orM s).view.set]{fullShare} ((orM s).view.write (Elt F) f ((dqM k).view.read (Elt F) (dqC X W c s)) Finset.univ))
      ∗ ((dqM k).view.loc (c : Thread nD τ) ↦[(dqM k).view.set]{fullShare} dqC X W c s)))

theorem out_step {α : Type} {Q : α → sProp 𝕄} (c s : Dev nD) (k : Fin 2) (src : Memref sig .tc .vmem S1024x512 .f32) (dst : Memref sig .tc .hbm S1024x512 .f32)
    (hsr : src = dqM k) (hdst : dst = orM s) (sm : SemLoc sig) (hsm : sm = outS k) (f : FVec F S4096x512 .f32)
    {hsrc : src.view.WordExact} {hdw : dst.view.WordExact} {hsem : DmaTarget.Typed .vmem sm (DmaTarget.here (nD := nD) (p := (c : Thread nD τ).2) dst)}
    {kk : PUnit → Prog (TpuEff nD τ sig (Elt F) Λ₀ .tc) α} :
    (dqPts c k (dqC X W c s) : sProp 𝕄) ⊢ iprop(orPts c s f -∗ semVal ((c : Thread nD τ), outS k) 0
      -∗ (outFl X W c s k -∗ WP c (kk ⟨⟩) Q)
      -∗ WP c (.op (.enqueueDma src (.here dst) sm hsrc hdw hsem) kk) Q) := by
  subst hsr hdst hsm
  unfold dqPts orPts outFl
  iintro Hs Hd Hv Hk
  iapply (Transfers.wp_dmaLocal (src := dqM k) (dst := orM s) (sm := outS k) (hsrc := hsrc) (hdst := hdw) (hsem := hsem) (k := kk) (Q := Q) (q := fullShare)
    (fs := dqC X W c s) (fd := f) countersEmb 𝒱₀ (c : Thread nD τ) none false No rfl No_pos (Finset.Subset.refl _)) $$ [Hs Hd Hv] [Hk]
  · isplitl [Hs]; · iexact Hs
    isplitl [Hd]; · iexact Hd
    iexact Hv
  iintro Hf
  iapply Hk
  iexists f
  iexact Hf

theorem outwait_step {α : Type} {Q : α → sProp 𝕄} (c s : Dev nD) (k : Fin 2) {sp sp' : Space} {s₁ s₂ : Shape} {e₁ e₂ : EltTy}
    (sem : DmaSem sig) (hsm : (SemLoc.dma sem : SemLoc sig) = outS k)
    {srcw : Memref sig .tc sp' s₁ e₁} {dstw : Memref sig .tc sp s₂ e₂} {hsrc : srcw.view.WordExact} {hdst : dstw.view.WordExact}
    (hN : dstw.view.dmaCredit = No) {kk : PUnit → Prog (TpuEff nD τ sig (Elt F) Λ₀ .tc) α} :
    (outFl X W c s k : sProp 𝕄) ⊢ iprop(owesE c 0
      -∗ ((orPts c s (outAll X W c) ∗ dqPts c k (dqC X W c s) ∗ semVal ((c : Thread nD τ), outS k) 0 ∗ owesE c 0) -∗ WP c (kk ⟨⟩) Q)
      -∗ WP c (.op (.waitDma2 sem srcw dstw hsrc hdst) kk) Q) := by
  unfold outFl owesE
  rw [← hsm]
  iintro ⟨%f, Hf⟩ ⟨%V, Ho⟩ Hk
  iapply (Transfers.wp_waitLocal (srcw := srcw) (dstw := dstw) (hsrc := hsrc) (hdst := hdst) (k := kk) (Q := Q) (sem := sem) countersEmb 𝒱₀ (c : Thread nD τ) none false hN (W := V)) $$ [Hf Ho] [Hk]
  · isplitl [Hf]; · iexact Hf
    iexact Ho
  iintro ⟨⟨Hd, Hs⟩, Hv, Ho⟩
  iapply Hk
  unfold orPts dqPts
  isplitl [Hd]
  · iapply (Entails.of_eq (pointsTo_congr (write_agree (Val := Elt F) (orM s).view f (outAll X W c) _ (read_or X W c s k)))); iexact Hd
  isplitl [Hs]; · iexact Hs
  isplitl [Hv]; · iexact Hv
  iexists _; iexact Ho

/-! ## Buffers and their slots -/

theorem slices_cover {T : Type} [Fintype T] (b : Ref sig .tc) (R : T → Rect b.ty.shape) (h : ∀ i, ∃ t, i ∈ (R t).set) (Kf : T → Finset b.ty.Idx)
    (hK : ∀ t, Kf t = (R t).set) : (Finset.univ.biUnion Kf : Finset b.ty.Idx) = Finset.univ := by
  ext i
  obtain ⟨t, ht⟩ := h i
  exact ⟨fun _ => Finset.mem_univ _, fun _ => Finset.mem_biUnion.mpr ⟨t, Finset.mem_univ _, by rw [hK]; exact ht⟩⟩

theorem am_set (s : Dev nD) : (amM s).view.set = (Rect.unit (s := S4x8x128) ![s.val, 0, 0] S1x8x128.size (inb_am s)).set :=
  (View.set_reshape _ _).trans (View.set_slice_whole cc0_scratch9 _)
theorem rv_set (s : Dev nD) : (rvM s).view.set = (Rect.unit (s := S4x1024x512) ![s.val, 0, 0] S1x1024x512.size (inb_rv s)).set :=
  (View.set_reshape _ _).trans (View.set_slice_whole cc0_scratch6 _)
theorem sd_set (s : Dev nD) : (sdM s).view.set = (Rect.unit (s := S4x1024x512) ![s.val, 0, 0] S1x1024x512.size (inb_rv s)).set :=
  (View.set_reshape _ _).trans (View.set_slice_whole cc0_scratch5 _)
theorem dq_set (k : Fin 2) : (dqM k).view.set = (Rect.unit (s := S2x1024x512) ![k.val, 0, 0] S1x1024x512.size (inb_dq k)).set :=
  (View.set_reshape _ _).trans (View.set_slice_whole cc0_scratch7 _)
theorem or_set (s : Dev nD) : (orM s).view.set = (Rect.unit (s := S4096x512) ![1024 * s.val, 0] S1024x512.size (inb_or s)).set :=
  View.set_slice_whole main_v1 _

theorem am_cover (i : S4x8x128.Idx) : ∃ s : Dev nD, i ∈ (Rect.unit (s := S4x8x128) ![s.val, 0, 0] S1x8x128.size (inb_am s)).set :=
  ⟨⟨(i 0).val, (i 0).isLt⟩, Rect.mem_set_unit.mpr fun a => match a with
    | ⟨0, _⟩ => ⟨Nat.le_refl _, Nat.lt_succ_self _⟩
    | ⟨1, _⟩ => ⟨Nat.zero_le _, (Nat.zero_add _).symm ▸ (i 1).isLt⟩
    | ⟨2, _⟩ => ⟨Nat.zero_le _, (Nat.zero_add _).symm ▸ (i 2).isLt⟩⟩
theorem rv_cover (i : S4x1024x512.Idx) : ∃ s : Dev nD, i ∈ (Rect.unit (s := S4x1024x512) ![s.val, 0, 0] S1x1024x512.size (inb_rv s)).set :=
  ⟨⟨(i 0).val, (i 0).isLt⟩, Rect.mem_set_unit.mpr fun a => match a with
    | ⟨0, _⟩ => ⟨Nat.le_refl _, Nat.lt_succ_self _⟩
    | ⟨1, _⟩ => ⟨Nat.zero_le _, (Nat.zero_add _).symm ▸ (i 1).isLt⟩
    | ⟨2, _⟩ => ⟨Nat.zero_le _, (Nat.zero_add _).symm ▸ (i 2).isLt⟩⟩
theorem dq_cover (i : S2x1024x512.Idx) : ∃ s : Fin 2, i ∈ (Rect.unit (s := S2x1024x512) ![s.val, 0, 0] S1x1024x512.size (inb_dq s)).set :=
  ⟨⟨(i 0).val, (i 0).isLt⟩, Rect.mem_set_unit.mpr fun a => match a with
    | ⟨0, _⟩ => ⟨Nat.le_refl _, Nat.lt_succ_self _⟩
    | ⟨1, _⟩ => ⟨Nat.zero_le _, (Nat.zero_add _).symm ▸ (i 1).isLt⟩
    | ⟨2, _⟩ => ⟨Nat.zero_le _, (Nat.zero_add _).symm ▸ (i 2).isLt⟩⟩
theorem or_cover (i : S4096x512.Idx) : ∃ s : Dev nD, i ∈ (Rect.unit (s := S4096x512) ![1024 * s.val, 0] S1024x512.size (inb_or s)).set :=
  ⟨rowsOf i, Rect.mem_set_unit.mpr fun a => match a with
    | ⟨0, _⟩ => (by show 1024 * ((i 0).val / 1024) ≤ (i 0).val ∧ (i 0).val < 1024 * ((i 0).val / 1024) + 1024; omega)
    | ⟨1, _⟩ => ⟨Nat.zero_le _, (Nat.zero_add _).symm ▸ (i 1).isLt⟩⟩

theorem val_ne {n : ℕ} {s t : Fin n} (h : s ≠ t) : s.val + 1 ≤ t.val ∨ t.val + 1 ≤ s.val := by
  have : s.val ≠ t.val := fun e => h (Fin.ext e)
  omega

theorem am_disj (s t : Dev nD) (h : s ≠ t) : Disjoint (amM s).view.set (amM t).view.set := by
  rw [am_set, am_set]; exact unit_disjoint _ _ 0 (val_ne h)
theorem rv_disj (s t : Dev nD) (h : s ≠ t) : Disjoint (rvM s).view.set (rvM t).view.set := by
  rw [rv_set, rv_set]; exact unit_disjoint _ _ 0 (val_ne h)
theorem sd_disj (s t : Dev nD) (h : s ≠ t) : Disjoint (sdM s).view.set (sdM t).view.set := by
  rw [sd_set, sd_set]; exact unit_disjoint _ _ 0 (val_ne h)
theorem dq_disj (s t : Fin 2) (h : s ≠ t) : Disjoint (dqM s).view.set (dqM t).view.set := by
  rw [dq_set, dq_set]; exact unit_disjoint _ _ 0 (val_ne h)
theorem or_disj (s t : Dev nD) (h : s ≠ t) : Disjoint (orM s).view.set (orM t).view.set := by
  rw [or_set, or_set]
  refine unit_disjoint _ _ 0 ?_
  have := val_ne h
  show 1024 * s.val + 1024 ≤ 1024 * t.val ∨ 1024 * t.val + 1024 ≤ 1024 * s.val
  omega

/-- A whole buffer held. -/
abbrev wpts (c : Dev nD) (b : Ref sig .tc) (f : Buf (Elt F) ((Memref.whole b).view.loc (c : Thread nD τ))) : sProp 𝕄 :=
  ((Memref.whole b).view.loc (c : Thread nD τ) ↦[Finset.univ]{fullShare} f)

theorem am_split (c : Dev nD) (f : FVec F S4x8x128 .f32) : (wpts c cc0_scratch9 f : sProp 𝕄) = bigSep Finset.univ fun s => amPts c s f := by
  have h : (_ : sProp 𝕄) = _ := pointsTo_biUnion (Val := Elt F) (ℓ := (Memref.whole cc0_scratch9).view.loc (c : Thread nD τ)) (q := fullShare) (f := f) Finset.univ (fun s : Dev nD => (amM s).view.set) (fun s _ t _ h => am_disj s t h)
  rw [slices_cover cc0_scratch9 _ am_cover _ am_set] at h
  exact h
theorem rv_split (c : Dev nD) (f : IVec S4x1024x512 8) : (wpts c cc0_scratch6 f : sProp 𝕄) = bigSep Finset.univ fun s => rvPts c s f := by
  have h : (_ : sProp 𝕄) = _ := pointsTo_biUnion (Val := Elt F) (ℓ := (Memref.whole cc0_scratch6).view.loc (c : Thread nD τ)) (q := fullShare) (f := f) Finset.univ (fun s : Dev nD => (rvM s).view.set) (fun s _ t _ h => rv_disj s t h)
  rw [slices_cover cc0_scratch6 _ rv_cover _ rv_set] at h
  exact h
theorem sd_split (c : Dev nD) (f : IVec S4x1024x512 8) : (wpts c cc0_scratch5 f : sProp 𝕄) = bigSep Finset.univ fun s => sdPts c s f := by
  have h : (_ : sProp 𝕄) = _ := pointsTo_biUnion (Val := Elt F) (ℓ := (Memref.whole cc0_scratch5).view.loc (c : Thread nD τ)) (q := fullShare) (f := f) Finset.univ (fun s : Dev nD => (sdM s).view.set) (fun s _ t _ h => sd_disj s t h)
  rw [slices_cover cc0_scratch5 _ rv_cover _ sd_set] at h
  exact h
theorem dq_split (c : Dev nD) (f : FVec F S2x1024x512 .f32) : (wpts c cc0_scratch7 f : sProp 𝕄) = bigSep Finset.univ fun k => dqPts c k f := by
  have h : (_ : sProp 𝕄) = _ := pointsTo_biUnion (Val := Elt F) (ℓ := (Memref.whole cc0_scratch7).view.loc (c : Thread nD τ)) (q := fullShare) (f := f) Finset.univ (fun s : Fin 2 => (dqM s).view.set) (fun s _ t _ h => dq_disj s t h)
  rw [slices_cover cc0_scratch7 _ dq_cover _ dq_set] at h
  exact h
theorem or_split (c : Dev nD) (f : FVec F S4096x512 .f32) : (wpts c main_v1 f : sProp 𝕄) = bigSep Finset.univ fun s => orPts c s f := by
  have h : (_ : sProp 𝕄) = _ := pointsTo_biUnion (Val := Elt F) (ℓ := (Memref.whole main_v1).view.loc (c : Thread nD τ)) (q := fullShare) (f := f) Finset.univ (fun s : Dev nD => (orM s).view.set) (fun s _ t _ h => or_disj s t h)
  rw [slices_cover main_v1 _ or_cover _ or_set] at h
  exact h

/-- Slots of different contents make a whole buffer of some contents. -/
theorem rv_join (c : Dev nD) (f₀ : IVec S4x1024x512 8) : (bigSep Finset.univ fun s => iprop(∃ f, rvPts (F := F) c s f)) ⊢ (iprop(∃ f, wpts c cc0_scratch6 f) : sProp 𝕄) := by
  haveI : ∀ i : Dev nD, Nonempty (IVec S4x1024x512 8) := fun _ => ⟨f₀⟩
  refine (show _ ⊢ _ from BI.bigSep_exists_pi _ _).trans ?_
  iintro ⟨%fs, H⟩
  have h : (bigSep Finset.univ fun s => rvPts (F := F) c s (fs s) : sProp 𝕄) ⊢ _ :=
    pointsTo_biUnion_join (Val := Elt F) (ℓ := (Memref.whole cc0_scratch6).view.loc (c : Thread nD τ)) (q := fullShare) Finset.univ (fun s : Dev nD => (rvM s).view.set) fs (fs 0) (fun s _ t _ h => rv_disj s t h)
  rw [slices_cover cc0_scratch6 _ rv_cover _ rv_set] at h
  ihave H := h $$ H
  icases H with ⟨%g, -, H⟩
  iexists g
  iexact H
theorem sd_join (c : Dev nD) (f₀ : IVec S4x1024x512 8) : (bigSep Finset.univ fun s => iprop(∃ f, sdPts (F := F) c s f)) ⊢ (iprop(∃ f, wpts c cc0_scratch5 f) : sProp 𝕄) := by
  haveI : ∀ i : Dev nD, Nonempty (IVec S4x1024x512 8) := fun _ => ⟨f₀⟩
  refine (show _ ⊢ _ from BI.bigSep_exists_pi _ _).trans ?_
  iintro ⟨%fs, H⟩
  have h : (bigSep Finset.univ fun s => sdPts (F := F) c s (fs s) : sProp 𝕄) ⊢ _ :=
    pointsTo_biUnion_join (Val := Elt F) (ℓ := (Memref.whole cc0_scratch5).view.loc (c : Thread nD τ)) (q := fullShare) Finset.univ (fun s : Dev nD => (sdM s).view.set) fs (fs 0) (fun s _ t _ h => sd_disj s t h)
  rw [slices_cover cc0_scratch5 _ rv_cover _ sd_set] at h
  ihave H := h $$ H
  icases H with ⟨%g, -, H⟩
  iexists g
  iexact H
theorem dq_join (c : Dev nD) (f₀ : FVec F S2x1024x512 .f32) : (bigSep Finset.univ fun s => iprop(∃ f, dqPts (F := F) c s f)) ⊢ (iprop(∃ f, wpts c cc0_scratch7 f) : sProp 𝕄) := by
  haveI : ∀ i : Fin 2, Nonempty (FVec F S2x1024x512 .f32) := fun _ => ⟨f₀⟩
  refine (@BI.bigSep_exists_pi _ _ _ _ (fun _ : Fin 2 => FVec F S2x1024x512 .f32) this Finset.univ (fun s f => dqPts (F := F) c s f)).trans ?_
  iintro ⟨%fs, H⟩
  have h : (bigSep Finset.univ fun s => dqPts (F := F) c s (fs s) : sProp 𝕄) ⊢ _ :=
    pointsTo_biUnion_join (Val := Elt F) (ℓ := (Memref.whole cc0_scratch7).view.loc (c : Thread nD τ)) (q := fullShare) Finset.univ (fun s : Fin 2 => (dqM s).view.set) fs (fs 0) (fun s _ t _ h => dq_disj s t h)
  rw [slices_cover cc0_scratch7 _ dq_cover _ dq_set] at h
  ihave H := h $$ H
  icases H with ⟨%g, -, H⟩
  iexists g
  iexact H

theorem univ_around (c : Dev nD) : (Finset.univ : Finset (Dev nD)) = ([c, pr c 1, pr c 2, pr c 3] : List (Dev nD)).toFinset := by revert c; decide
theorem around_nodup (c : Dev nD) : ([c, pr c 1, pr c 2, pr c 3] : List (Dev nD)).Nodup := by revert c; decide

/-- All devices, from `c` on around. -/
theorem around (c : Dev nD) (Φ : Dev nD → sProp 𝕄) : bigSep Finset.univ Φ = iprop(Φ c ∗ Φ (pr c 1) ∗ Φ (pr c 2) ∗ Φ (pr c 3)) := by
  rw [bigSep_eq_bigSepL_of_eq [c, pr c 1, pr c 2, pr c 3] (univ_around c) (around_nodup c), bigSepL_cons_cons, bigSepL_cons_cons, bigSepL_cons_cons, bigSepL_singleton]
  rfl
theorem four (Φ : Dev nD → sProp 𝕄) : bigSep Finset.univ Φ = iprop(Φ 0 ∗ Φ 1 ∗ Φ 2 ∗ Φ 3) := around 0 Φ
theorem two (Φ : Fin 2 → sProp 𝕄) : bigSep Finset.univ Φ = iprop(Φ 0 ∗ Φ 1) := by
  rw [bigSep_eq_bigSepL_of_eq [0, 1] (by decide) (by decide), bigSepL_cons_cons, bigSepL_singleton]
  rfl

/-- The sent buffer in the three shares that the sends take. -/
theorem as_split (c : Dev nD) (f : FVec F S8x128 .f32) : (wpts c cc0_scratch8 f : sProp 𝕄) ⊣⊢ iprop(asPts c (aq 1) f ∗ asPts c (aq 2) f ∗ asPts c (aq 3) f) := by
  have h : (wpts c cc0_scratch8 f : sProp 𝕄) = (asM.view.loc (c : Thread nD τ) ↦[asM.view.set]{fullShare} f) := by
    rw [show asM.view.set = Finset.univ from View.set_whole cc0_scratch8]
  rw [h]
  unfold asPts
  exact (pointsTo_share (PosShare.mem_left_op_right fullShare)).trans
    (sep_congr .rfl (pointsTo_share (PosShare.mem_left_op_right fullShare.right)))

end Cert.QK

end
-- ==== Proof.Offs.lean ====
/-
The devices, places and semaphores that the exchange computes, in closed form, and loads and stores at them.
-/
module

public import proofs.«01_k».proof.Proof.Slots2

@[expose] public section

set_option maxRecDepth 8192

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices and offsets -/

theorem dev1_pr (c : Dev nD) : (⟨k0_dev1 c, k0_dev1_lt c⟩ : Dev nD) = pr c 1 := by revert c; decide +kernel
theorem dev2_pr (c : Dev nD) : (⟨k0_dev2 c, k0_dev2_lt c⟩ : Dev nD) = pr c 2 := by revert c; decide +kernel
theorem dev3_pr (c : Dev nD) : (⟨k0_dev3 c, k0_dev3_lt c⟩ : Dev nD) = pr c 3 := by revert c; decide +kernel
theorem dev4_pr (c : Dev nD) : (⟨k0_dev4 c, k0_dev4_lt c⟩ : Dev nD) = pr c 1 := by revert c; decide +kernel
theorem dev5_pr (c : Dev nD) : (⟨k0_dev5 c, k0_dev5_lt c⟩ : Dev nD) = pr c 2 := by revert c; decide +kernel
theorem dev6_pr (c : Dev nD) : (⟨k0_dev6 c, k0_dev6_lt c⟩ : Dev nD) = pr c 3 := by revert c; decide +kernel
theorem dev7_pr (c : Dev nD) : (⟨k0_dev7 c, k0_dev7_lt c⟩ : Dev nD) = pr c 1 := by revert c; decide +kernel
theorem dev8_pr (c : Dev nD) : (⟨k0_dev8 c, k0_dev8_lt c⟩ : Dev nD) = pr c 2 := by revert c; decide +kernel
theorem dev9_pr (c : Dev nD) : (⟨k0_dev9 c, k0_dev9_lt c⟩ : Dev nD) = pr c 3 := by revert c; decide +kernel

theorem off4_1 (c : Dev nD) : k0_off4 c 1#32 = ![(pr c 1).val] := by revert c; decide +kernel
theorem off4_2 (c : Dev nD) : k0_off4 c 2#32 = ![(pr c 2).val] := by revert c; decide +kernel
theorem off4_3 (c : Dev nD) : k0_off4 c 3#32 = ![(pr c 3).val] := by revert c; decide +kernel
theorem off6_1 (c : Dev nD) : k0_off6 c 1#32 = ![0, 512 * (pr c 1).val] := by revert c; decide +kernel
theorem off6_2 (c : Dev nD) : k0_off6 c 2#32 = ![0, 512 * (pr c 2).val] := by revert c; decide +kernel
theorem off6_3 (c : Dev nD) : k0_off6 c 3#32 = ![0, 512 * (pr c 3).val] := by revert c; decide +kernel
theorem off11_1 (c : Dev nD) : k0_off11 c 1#32 = ![(pr c 1).val, 0, 0] := by revert c; decide +kernel
theorem off11_2 (c : Dev nD) : k0_off11 c 2#32 = ![(pr c 2).val, 0, 0] := by revert c; decide +kernel
theorem off11_3 (c : Dev nD) : k0_off11 c 3#32 = ![(pr c 3).val, 0, 0] := by revert c; decide +kernel
theorem off12_1 (c : Dev nD) : k0_off12 c 1#32 = ![1024 * (pr c 1).val, 0] := by revert c; decide +kernel
theorem off12_2 (c : Dev nD) : k0_off12 c 2#32 = ![1024 * (pr c 2).val, 0] := by revert c; decide +kernel
theorem off12_3 (c : Dev nD) : k0_off12 c 3#32 = ![1024 * (pr c 3).val, 0] := by revert c; decide +kernel
theorem off1_c (c : Dev nD) : k0_off1 c = ![c.val, 0, 0] := by revert c; decide +kernel
theorem off2_c (c : Dev nD) : k0_off2 c = ![c.val] := by revert c; decide +kernel
theorem off3_c (c : Dev nD) : k0_off3 c = ![c.val, 0, 0] := by revert c; decide +kernel
theorem off7_c (c : Dev nD) : k0_off7 c = ![c.val, 0, 0] := by revert c; decide +kernel
theorem off8_c (c : Dev nD) : k0_off8 c = ![0, 512 * c.val] := by revert c; decide +kernel
theorem off9_c (c : Dev nD) : k0_off9 c = ![1024 * c.val, 0] := by revert c; decide +kernel

/-! ## Slots at those offsets -/

theorem amM_of (s : Dev nD) (o : Fin 3 → ℕ) (ho : o = ![s.val, 0, 0]) (h : ∀ a, o a + S1x8x128.size a ≤ S4x8x128.size a) :
    ((Memref.whole cc0_scratch9).slice (Rect.unit (s := S4x8x128) o S1x8x128.size h) (fun _ => rfl)).squeeze S8x128 squeezes_S1x8x128_S8x128 = amM s := by
  subst ho; rfl
theorem rvM_of (s : Dev nD) (o : Fin 3 → ℕ) (ho : o = ![s.val, 0, 0]) (h : ∀ a, o a + S1x1024x512.size a ≤ S4x1024x512.size a) :
    ((Memref.whole cc0_scratch6).slice (Rect.unit (s := S4x1024x512) o S1x1024x512.size h) (fun _ => rfl)).squeeze S1024x512 squeezes_S1x1024x512_S1024x512 = rvM s := by
  subst ho; rfl
theorem orM_of (s : Dev nD) (o : Fin 2 → ℕ) (ho : o = ![1024 * s.val, 0]) (h : ∀ a, o a + S1024x512.size a ≤ S4096x512.size a) :
    (Memref.whole main_v1).slice (Rect.unit (s := S4096x512) o S1024x512.size h) (fun _ => rfl) = orM s := by
  subst ho; rfl

theorem sem_send (s : Dev nD) (o : Fin 1 → ℕ) (ho : o = ![s.val]) (h : ∀ a, o a + S1.size a ≤ S4.size a) :
    SemLoc.dma ((cc0_scratch12.slice (Rect.unit (s := S4) o S1.size h)).squeeze S_ squeezes_S1_S_).sem = csem (sendK s) := by
  subst ho; revert s; decide
theorem sem_recv (s : Dev nD) (o : Fin 1 → ℕ) (ho : o = ![s.val]) (h : ∀ a, o a + S1.size a ≤ S4.size a) :
    SemLoc.dma ((cc0_scratch13.slice (Rect.unit (s := S4) o S1.size h)).squeeze S_ squeezes_S1_S_).sem = csem (recvK s) := by
  subst ho; revert s; decide
theorem sem_asend (s : Dev nD) (o : Fin 1 → ℕ) (ho : o = ![s.val]) (h : ∀ a, o a + S1.size a ≤ S4.size a) :
    SemLoc.dma ((cc0_scratch14.slice (Rect.unit (s := S4) o S1.size h)).squeeze S_ squeezes_S1_S_).sem = csem (asendK s) := by
  subst ho; revert s; decide
theorem sem_arecv (s : Dev nD) (o : Fin 1 → ℕ) (ho : o = ![s.val]) (h : ∀ a, o a + S1.size a ≤ S4.size a) :
    SemLoc.dma ((cc0_scratch15.slice (Rect.unit (s := S4) o S1.size h)).squeeze S_ squeezes_S1_S_).sem = csem (arecvK s) := by
  subst ho; revert s; decide
theorem sem_out0 : SemLoc.dma ((cc0_scratch11.slice (Rect.unit (s := S2) ![0] S1.size inb_S2_S1_0)).squeeze S_ squeezes_S1_S_).sem = outS 0 := by decide
theorem sem_out1 : SemLoc.dma ((cc0_scratch11.slice (Rect.unit (s := S2) ![1] S1.size inb_S2_S1_1)).squeeze S_ squeezes_S1_S_).sem = outS 1 := by decide

variable {F : FTy → Type} [FloatOps F]
local notation "𝕄" => MT nD τ sig Bool (Elt F) ℕ UU ℕ

variable (X : Dev nD → FVec F S1024x4096 .f32) (W : Dev nD → FVec F S4096x2048 .f32)

/-! ## Loads and stores at them -/

theorem st_am {α : Type} {Q : α → sProp 𝕄} (c : Dev nD) (o : Fin 3 → ℕ) (ho : o = ![c.val, 0, 0]) (h : ∀ a, o a + S1x8x128.size a ≤ S4x8x128.size a)
    (w : FVec F S1x8x128 .f32) (hw : w = k0_pay38 (fun _ => lmax (X c) (W c))) (f : FVec F S4x8x128 .f32)
    {hx : ((Memref.whole cc0_scratch9).access (Rect.unit (s := S4x8x128) o S1x8x128.size h)).Stores Finset.univ}
    {hm : (Finset.univ : Finset (Rect.unit (s := S4x8x128) o S1x8x128.size h).shape.Idx) = Finset.univ ∨ ∀ a, (Rect.unit (s := S4x8x128) o S1x8x128.size h).stride a = 1}
    {k : PUnit → Prog (TpuEff nD τ sig (Elt F) Λ₀ .tc) α} :
    (amPts c c f : sProp 𝕄) ⊢ iprop((amPts c c (amaxAll X W) -∗ WP c (k ⟨⟩) Q)
      -∗ WP c (.op (.store (Memref.whole cc0_scratch9) (Rect.unit (s := S4x8x128) o S1x8x128.size h) w Finset.univ hx hm) k) Q) := by
  subst ho hw
  have e := set_slot (b := cc0_scratch9) (Rect.unit (s := S4x8x128) ![c.val, 0, 0] S1x8x128.size h) (fun _ => rfl) squeezes_S1x8x128_S8x128
  exact store_slot c (Memref.whole cc0_scratch9) _ _ e.ge e.le f (amaxAll X W) _ (acc_am X W c)

theorem ld_am {α : Type} {Q : α → sProp 𝕄} (c : Dev nD) (o : Fin 3 → ℕ) (ho : o = ![c.val, 0, 0]) (h : ∀ a, o a + S1x8x128.size a ≤ S4x8x128.size a)
    (f : FVec F S4x8x128 .f32) {hl : (Memref.whole cc0_scratch9).view.LoadsAt (Rect.unit (s := S4x8x128) o S1x8x128.size h).toLoadRect}
    {k : (FVec F S1x8x128 .f32) → Prog (TpuEff nD τ sig (Elt F) Λ₀ .tc) α} (k' : Prog (TpuEff nD τ sig (Elt F) Λ₀ .tc) α) (hk : ∀ v, k v = k') :
    (amPts c c f : sProp 𝕄) ⊢ iprop((amPts c c f -∗ WP c k' Q)
      -∗ WP c (.op (.load (Memref.whole cc0_scratch9) (Rect.unit (s := S4x8x128) o S1x8x128.size h).toLoadRect hl) k) Q) := by
  subst ho
  have e := set_slot (b := cc0_scratch9) (Rect.unit (s := S4x8x128) ![c.val, 0, 0] S1x8x128.size h) (fun _ => rfl) squeezes_S1x8x128_S8x128
  refine (load_slot (k := k) (Q := Q) c (Memref.whole cc0_scratch9) (Rect.unit (s := S4x8x128) ![c.val, 0, 0] S1x8x128.size h) _ e.ge f _ rfl (hl := hl)).trans ?_
  rw [hk]; exact .rfl

theorem st_sd {α : Type} {Q : α → sProp 𝕄} (c d : Dev nD) (o : Fin 3 → ℕ) (ho : o = ![d.val, 0, 0]) (h : ∀ a, o a + S1x1024x512.size a ≤ S4x1024x512.size a)
    (w : IVec S1x1024x512 8) (hw : w = qblk X W c (pr c d)) (f : IVec S4x1024x512 8)
    {hx : ((Memref.whole cc0_scratch5).access (Rect.unit (s := S4x1024x512) o S1x1024x512.size h)).Stores Finset.univ}
    {hm : (Finset.univ : Finset (Rect.unit (s := S4x1024x512) o S1x1024x512.size h).shape.Idx) = Finset.univ ∨ ∀ a, (Rect.unit (s := S4x1024x512) o S1x1024x512.size h).stride a = 1}
    {k : PUnit → Prog (TpuEff nD τ sig (Elt F) Λ₀ .tc) α} :
    (sdPts c d f : sProp 𝕄) ⊢ iprop((sdPts c d (qs X W c) -∗ WP c (k ⟨⟩) Q)
      -∗ WP c (.op (.store (Memref.whole cc0_scratch5) (Rect.unit (s := S4x1024x512) o S1x1024x512.size h) w Finset.univ hx hm) k) Q) := by
  subst ho hw
  have e := set_slot (b := cc0_scratch5) (Rect.unit (s := S4x1024x512) ![d.val, 0, 0] S1x1024x512.size h) (fun _ => rfl) squeezes_S1x1024x512_S1024x512
  exact store_slot c (Memref.whole cc0_scratch5) _ _ e.ge e.le f (qs X W c) _ (acc_sd X W c d)

theorem ld_sd {α : Type} {Q : α → sProp 𝕄} (c d : Dev nD) (o : Fin 3 → ℕ) (ho : o = ![d.val, 0, 0]) (h : ∀ a, o a + S1x1024x512.size a ≤ S4x1024x512.size a)
    (f : IVec S4x1024x512 8) {hl : (Memref.whole cc0_scratch5).view.LoadsAt (Rect.unit (s := S4x1024x512) o S1x1024x512.size h).toLoadRect}
    {k : (IVec S1x1024x512 8) → Prog (TpuEff nD τ sig (Elt F) Λ₀ .tc) α} (k' : Prog (TpuEff nD τ sig (Elt F) Λ₀ .tc) α) (hk : ∀ v, k v = k') :
    (sdPts c d f : sProp 𝕄) ⊢ iprop((sdPts c d f -∗ WP c k' Q)
      -∗ WP c (.op (.load (Memref.whole cc0_scratch5) (Rect.unit (s := S4x1024x512) o S1x1024x512.size h).toLoadRect hl) k) Q) := by
  subst ho
  have e := set_slot (b := cc0_scratch5) (Rect.unit (s := S4x1024x512) ![d.val, 0, 0] S1x1024x512.size h) (fun _ => rfl) squeezes_S1x1024x512_S1024x512
  refine (load_slot (k := k) (Q := Q) c (Memref.whole cc0_scratch5) (Rect.unit (s := S4x1024x512) ![d.val, 0, 0] S1x1024x512.size h) _ e.ge f _ rfl (hl := hl)).trans ?_
  rw [hk]; exact .rfl

theorem st_dq {α : Type} {Q : α → sProp 𝕄} (c s : Dev nD) (j : Fin 2) (o : Fin 3 → ℕ) (ho : o = ![j.val, 0, 0]) (h : ∀ a, o a + S1x1024x512.size a ≤ S2x1024x512.size a)
    (w : FVec F S1x1024x512 .f32) (hw : w = oblk X W c s) (f : FVec F S2x1024x512 .f32)
    {hx : ((Memref.whole cc0_scratch7).access (Rect.unit (s := S2x1024x512) o S1x1024x512.size h)).Stores Finset.univ}
    {hm : (Finset.univ : Finset (Rect.unit (s := S2x1024x512) o S1x1024x512.size h).shape.Idx) = Finset.univ ∨ ∀ a, (Rect.unit (s := S2x1024x512) o S1x1024x512.size h).stride a = 1}
    {k : PUnit → Prog (TpuEff nD τ sig (Elt F) Λ₀ .tc) α} :
    (dqPts c j f : sProp 𝕄) ⊢ iprop((dqPts c j (dqC X W c s) -∗ WP c (k ⟨⟩) Q)
      -∗ WP c (.op (.store (Memref.whole cc0_scratch7) (Rect.unit (s := S2x1024x512) o S1x1024x512.size h) w Finset.univ hx hm) k) Q) := by
  subst ho hw
  have e := set_slot (b := cc0_scratch7) (Rect.unit (s := S2x1024x512) ![j.val, 0, 0] S1x1024x512.size h) (fun _ => rfl) squeezes_S1x1024x512_S1024x512
  exact store_slot (Q := Q) (k := k) (hx := hx) (hm := hm) c (Memref.whole cc0_scratch7) (Rect.unit (s := S2x1024x512) ![j.val, 0, 0] S1x1024x512.size h) (dqM j).view.set e.ge e.le f (dqC X W c s) (oblk X W c s) (acc_dq X W c s j)

theorem ld_dq {α : Type} {Q : α → sProp 𝕄} (c : Dev nD) (j : Fin 2) (o : Fin 3 → ℕ) (ho : o = ![j.val, 0, 0]) (h : ∀ a, o a + S1x1024x512.size a ≤ S2x1024x512.size a)
    (f : FVec F S2x1024x512 .f32) {hl : (Memref.whole cc0_scratch7).view.LoadsAt (Rect.unit (s := S2x1024x512) o S1x1024x512.size h).toLoadRect}
    {k : (FVec F S1x1024x512 .f32) → Prog (TpuEff nD τ sig (Elt F) Λ₀ .tc) α} (k' : Prog (TpuEff nD τ sig (Elt F) Λ₀ .tc) α) (hk : ∀ v, k v = k') :
    (dqPts c j f : sProp 𝕄) ⊢ iprop((dqPts c j f -∗ WP c k' Q)
      -∗ WP c (.op (.load (Memref.whole cc0_scratch7) (Rect.unit (s := S2x1024x512) o S1x1024x512.size h).toLoadRect hl) k) Q) := by
  subst ho
  have e := set_slot (b := cc0_scratch7) (Rect.unit (s := S2x1024x512) ![j.val, 0, 0] S1x1024x512.size h) (fun _ => rfl) squeezes_S1x1024x512_S1024x512
  refine (load_slot (k := k) (Q := Q) c (Memref.whole cc0_scratch7) (Rect.unit (s := S2x1024x512) ![j.val, 0, 0] S1x1024x512.size h) _ e.ge f _ rfl (hl := hl)).trans ?_
  rw [hk]; exact .rfl

/-- A load of a received block. -/
theorem ld_rv {α : Type} {Q : α → sProp 𝕄} (c s : Dev nD) (o : Fin 3 → ℕ) (ho : o = ![s.val, 0, 0]) (h : ∀ a, o a + S1x1024x512.size a ≤ S4x1024x512.size a)
    {hl : (Memref.whole cc0_scratch6).view.LoadsAt (Rect.unit (s := S4x1024x512) o S1x1024x512.size h).toLoadRect}
    {k : (IVec S1x1024x512 8) → Prog (TpuEff nD τ sig (Elt F) Λ₀ .tc) α} :
    (rvPts c s (rAll X W c) : sProp 𝕄) ⊢ iprop((rvPts c s (rAll X W c) -∗ WP c (k (qblk X W s c)) Q)
      -∗ WP c (.op (.load (Memref.whole cc0_scratch6) (Rect.unit (s := S4x1024x512) o S1x1024x512.size h).toLoadRect hl) k) Q) := by
  subst ho
  have e := set_slot (b := cc0_scratch6) (Rect.unit (s := S4x1024x512) ![s.val, 0, 0] S1x1024x512.size h) (fun _ => rfl) squeezes_S1x1024x512_S1024x512
  exact load_slot c (Memref.whole cc0_scratch6) _ _ e.ge (rAll X W c) _ (acc_rv X W c s)

/-- A load of the columns of the product that belong to device `p`. -/
theorem ld_y {α : Type} {Q : α → sProp 𝕄} (c p : Dev nD) (o : Fin 2 → ℕ) (ho : o = ![0, 512 * p.val]) (h : ∀ a, o a + S1024x512.size a ≤ S1024x2048.size a)
    {hl : (Memref.whole cc0_scratch4).view.LoadsAt (Rect.unit (s := S1024x2048) o S1024x512.size h).toLoadRect}
    {k : (FVec F S1024x512 .f32) → Prog (TpuEff nD τ sig (Elt F) Λ₀ .tc) α} :
    (wpts c cc0_scratch4 (yAll (X c) (W c)) : sProp 𝕄) ⊢ iprop((wpts c cc0_scratch4 (yAll (X c) (W c)) -∗ WP c (k (yblk X W c p)) Q)
      -∗ WP c (.op (.load (Memref.whole cc0_scratch4) (Rect.unit (s := S1024x2048) o S1024x512.size h).toLoadRect hl) k) Q) := by
  subst ho
  have hw : ((Memref.whole cc0_scratch4).access (Rect.unit (s := S1024x2048) ![0, 512 * p.val] S1024x512.size h)).read (Elt F) (yAll (X c) (W c)) = yblk X W c p := acc_y X W c p
  generalize yblk X W c p = y at hw ⊢
  generalize yAll (X c) (W c) = g at hw ⊢
  exact load_slot (Q := Q) (k := k) (hl := hl) (q := fullShare) c (Memref.whole cc0_scratch4) (Rect.unit (s := S1024x2048) ![0, 512 * p.val] S1024x512.size h) Finset.univ (Finset.subset_univ _) g y hw

end Cert.QK

end
-- ==== Proof.Parts1.lean ====
/-
The barrier and the exchange of the largest elements.
-/
module

public import proofs.«01_k».proof.Proof.Offs

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

/-- The end of a part. -/
theorem ret_step {α : Type} {Q : α → sProp 𝕄} (c : Dev nD) (a : α) : (Q a : sProp 𝕄) ⊢ WP c (.ret a : Prog (TpuEff nD τ sig (Elt F) Λ₀ .tc) α) Q := by
  show _ ⊢ wp _ _ _ _ _
  rw [wp_ret]
  iintro H
  imodintro
  iexact H

theorem pay37_eq (v : F .f32) : k0_pay37 v = fun _ => v := by
  unfold k0_pay37
  exact shapeCast_self _ _

theorem ld_as {α : Type} {Q : α → sProp 𝕄} (c : Dev nD) (f : FVec F S8x128 .f32)
    {hl : (Memref.whole cc0_scratch8).view.LoadsAt (Rect.unit (s := S8x128) ![0, 0] S8x128.size inb_S8x128_S8x128_0_0).toLoadRect}
    {k : (FVec F S8x128 .f32) → Prog (TpuEff nD τ sig (Elt F) Λ₀ .tc) α} :
    (wpts c cc0_scratch8 f : sProp 𝕄) ⊢ iprop((wpts c cc0_scratch8 f -∗ WP c (k f) Q)
      -∗ WP c (.op (.load (Memref.whole cc0_scratch8) (Rect.unit (s := S8x128) ![0, 0] S8x128.size inb_S8x128_S8x128_0_0).toLoadRect hl) k) Q) := by
  have hw := Memref.readAt_unit_zero (Elt F) cc0_scratch8 (off := ![0, 0]) (by decide) inb_S8x128_S8x128_0_0 f
  exact load_slot (Q := Q) (k := k) (hl := hl) (q := fullShare) c (Memref.whole cc0_scratch8) (Rect.unit (s := S8x128) ![0, 0] S8x128.size inb_S8x128_S8x128_0_0) Finset.univ (Finset.subset_univ _) f f hw

theorem ld_amw {α : Type} {Q : α → sProp 𝕄} (c : Dev nD) (f : FVec F S4x8x128 .f32)
    {hl : (Memref.whole cc0_scratch9).view.LoadsAt (Rect.unit (s := S4x8x128) ![0, 0, 0] S4x8x128.size inb_S4x8x128_S4x8x128_0_0_0).toLoadRect}
    {k : (FVec F S4x8x128 .f32) → Prog (TpuEff nD τ sig (Elt F) Λ₀ .tc) α} :
    (wpts c cc0_scratch9 f : sProp 𝕄) ⊢ iprop((wpts c cc0_scratch9 f -∗ WP c (k f) Q)
      -∗ WP c (.op (.load (Memref.whole cc0_scratch9) (Rect.unit (s := S4x8x128) ![0, 0, 0] S4x8x128.size inb_S4x8x128_S4x8x128_0_0_0).toLoadRect hl) k) Q) := by
  have hw := Memref.readAt_unit_zero (Elt F) cc0_scratch9 (off := ![0, 0, 0]) (by decide) inb_S4x8x128_S4x8x128_0_0_0 f
  exact load_slot (Q := Q) (k := k) (hl := hl) (q := fullShare) c (Memref.whole cc0_scratch9) (Rect.unit (s := S4x8x128) ![0, 0, 0] S4x8x128.size inb_S4x8x128_S4x8x128_0_0_0) Finset.univ (Finset.subset_univ _) f f hw

theorem st_as {α : Type} {Q : α → sProp 𝕄} (c : Dev nD) (f w : FVec F S8x128 .f32)
    {hx : ((Memref.whole cc0_scratch8).access (Rect.unit (s := S8x128) ![0, 0] S8x128.size inb_S8x128_S8x128_0_0)).Stores Finset.univ}
    {hm : (Finset.univ : Finset (Rect.unit (s := S8x128) ![0, 0] S8x128.size inb_S8x128_S8x128_0_0).shape.Idx) = Finset.univ ∨ ∀ a, (Rect.unit (s := S8x128) ![0, 0] S8x128.size inb_S8x128_S8x128_0_0).stride a = 1}
    {k : PUnit → Prog (TpuEff nD τ sig (Elt F) Λ₀ .tc) α} :
    (wpts c cc0_scratch8 f : sProp 𝕄) ⊢ iprop((wpts c cc0_scratch8 w -∗ WP c (k ⟨⟩) Q)
      -∗ WP c (.op (.store (Memref.whole cc0_scratch8) (Rect.unit (s := S8x128) ![0, 0] S8x128.size inb_S8x128_S8x128_0_0) w Finset.univ hx hm) k) Q) := by
  have hw := Memref.write_access_unit_zero_univ (Elt F) cc0_scratch8 (off := ![0, 0]) (by decide) inb_S8x128_S8x128_0_0 f w
  iintro H Hk
  iapply (wp_store (hx := hx) (hm := hm) (k := k) (Q := Q) (m := Memref.whole cc0_scratch8) (r := Rect.unit (s := S8x128) ![0, 0] S8x128.size inb_S8x128_S8x128_0_0) (Mk := Finset.univ) (f := f) (S := Finset.univ) 𝒱₀ (c : Thread nD τ) none Set.univ (Finset.subset_univ _)) $$ [H] [Hk]
  · iexact H
  iintro H
  iapply Hk
  iapply (Entails.of_eq (congrArg (fun g => (wpts c cc0_scratch8 g : sProp 𝕄)) hw)); iexact H

theorem part12 {Q : PUnit → sProp 𝕄} (c : Dev nD) (v2 : BitVec 32) (v306 : Sems sig S_) (h306 : v306 = SemArray.scalar (sig.barrier 0 rfl)) (w1 w2 : BitVec 32) (w3 w4 w5 : BitVec 1) :
    (records X W K : sProp 𝕄) ⊢ iprop(owesE c (O₀ c) -∗ dutyTok ER (kcell (pr c 1, 0)) 0 c -∗ dutyTok ER (kcell (pr c 2, 0)) 0 c -∗ dutyTok ER (kcell (pr c 3, 0)) 0 c
      -∗ barPay c (pr c 1) -∗ barPay c (pr c 2) -∗ barPay c (pr c 3)
      -∗ (owesE c (Oa1 c) -∗ Q ⟨⟩)
      -∗ WP c (k0_part12 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v306 w1 w2 w3 w4 w5) Q) := by
  subst h306
  rw [k0_part12_eq_skeleton]
  unfold k0_part12_skel
  simp only [semSignalWord, semWaitWord, Prog.lift, Prog.bind_op, Prog.bind_ret, Prog.pure_eq_ret]
  iintro #HR Ho T1 T2 T3 P1 P2 P3 Hk
  iapply (sig_step X W K c 1 _ (by decide) (dev1_pr c) _ rfl _ rfl (Ob2 c) (O₀ c) rfl) $$ HR Ho T1 P1
  iintro Ho
  iapply (sig_step X W K c 2 _ (by decide) (dev2_pr c) _ rfl _ rfl (Ob3 c) (Ob2 c) rfl) $$ HR Ho T2 P2
  iintro Ho
  iapply (sig_step X W K c 3 _ (by decide) (dev3_pr c) _ rfl _ rfl (Oa1 c) (Ob3 c) rfl) $$ HR Ho T3 P3
  iintro Ho
  iapply (ret_step c _)
  iapply Hk; iexact Ho

theorem part13 {Q : (Σ' (v376 : BitVec 32) (v377 : BitVec 32), BitVec 1) → sProp 𝕄} (c : Dev nD) (v2 : BitVec 32) (v305 : F .f32) (h305 : v305 = lmax (X c) (W c)) (v306 : Sems sig S_) (h306 : v306 = SemArray.scalar (sig.barrier 0 rfl))
    (f : FVec F S8x128 .f32) (g : FVec F S4x8x128 .f32) :
    (records X W K : sProp 𝕄) ⊢ iprop(owesE c (Oa1 c) -∗ cred (tallyAt (kcell (c, 0)) true 3) -∗ atPos ER (kcell (c, 0)) 0 ∅ 0
      -∗ wpts c cc0_scratch8 f -∗ amPts c c g -∗ dutyTok ER (kcell (c, asendK 1)) 0 c -∗ dutyTok ER (kcell (pr c 1, arecvK c)) 0 c
      -∗ (∀ r, (owesE c (Oa2 c) ∗ atPos ER (kcell (c, 0)) 1 ∅ 0 ∗ amPts c c (amaxAll X W) ∗ cred (tallyAt (kcell (c, asendK 1)) true Na)
          ∗ asPts c (aq 2) (fun _ => lmax (X c) (W c)) ∗ asPts c (aq 3) (fun _ => lmax (X c) (W c))
          ∗ (∃ f, rvPts (F := F) (pr c 1) c f) ∗ barPay (pr c 2) c ∗ barPay (pr c 3) c) -∗ Q r)
      -∗ WP c (k0_part13 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v305 v306) Q) := by
  subst h305 h306
  rw [k0_part13_eq_skeleton]
  unfold k0_part13_skel
  simp only [semSignalWord, semWaitWord, Prog.lift, Prog.bind_op, Prog.bind_ret, Prog.pure_eq_ret]
  iintro #HR Ho Hc Ha Hs Hm T1 T2 Hk
  iapply (bar_step X W K c _ rfl _ rfl (Oa1 c) (above_Oa1 c)) $$ HR Ho Hc Ha
  iintro ⟨Ho, Ha, B1, B2, B3⟩
  iapply (ld_as c f) $$ Hs
  iintro Hs
  iapply (st_as c f (k0_pay37 (lmax (X c) (W c)))) $$ Hs
  iintro Hs
  iapply (ld_as c (k0_pay37 (lmax (X c) (W c)))) $$ Hs
  iintro Hs
  iapply (ld_am c _ (off1_c c) _ g _ (fun _ => rfl)) $$ Hm
  iintro Hm
  iapply (st_am X W c _ (off1_c c) _ _ (by rw [pay37_eq]) g) $$ Hm
  iintro Hm
  rw [pay37_eq]
  ihave Hs := (as_split c (fun _ => lmax (X c) (W c))).1 $$ Hs
  icases Hs with ⟨S1, S2, S3⟩
  unfold barPay
  icases B1 with ⟨⟨%a1, A1⟩, R1⟩
  iapply (asend_step X W K c 1 _ (by decide) (dev4_pr c) _ (amM_of c _ (off3_c c) _) _ _ (sem_asend 1 _ rfl _) (sem_arecv c _ (off2_c c) _) (Oa2 c) (Oa1 c) rfl a1) $$ HR Ho S1 A1 T1 T2
  iintro ⟨Ho, C1⟩
  iapply (ret_step c _)
  iapply Hk
  isplitl [Ho]; · iexact Ho
  isplitl [Ha]; · iexact Ha
  isplitl [Hm]; · iexact Hm
  isplitl [C1]; · iexact C1
  isplitl [S2]; · iexact S2
  isplitl [S3]; · iexact S3
  isplitl [R1]; · iexact R1
  isplitl [B2]; · iexact B2
  iexact B3

theorem part14 {Q : (Σ' (v412 : BitVec 32) (c4 : BitVec 32) (v413 : BitVec 1), BitVec 32) → sProp 𝕄} (c : Dev nD) (v2 w1 w2 : BitVec 32) (w3 : BitVec 1) :
    (records X W K : sProp 𝕄) ⊢ iprop(owesE c (Oa2 c) -∗ asPts c (aq 2) (fun _ => lmax (X c) (W c)) -∗ asPts c (aq 3) (fun _ => lmax (X c) (W c))
      -∗ barPay (pr c 2) c -∗ barPay (pr c 3) c -∗ dutyTok ER (kcell (c, asendK 2)) 0 c -∗ dutyTok ER (kcell (pr c 2, arecvK c)) 0 c
      -∗ dutyTok ER (kcell (c, asendK 3)) 0 c -∗ dutyTok ER (kcell (pr c 3, arecvK c)) 0 c
      -∗ (∀ r, (owesE c (Oq1 c) ∗ cred (tallyAt (kcell (c, asendK 2)) true Na) ∗ cred (tallyAt (kcell (c, asendK 3)) true Na)
          ∗ (∃ f, rvPts (F := F) (pr c 2) c f) ∗ (∃ f, rvPts (F := F) (pr c 3) c f)) -∗ Q r)
      -∗ WP c (k0_part14 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 w1 w2 w3) Q) := by
  rw [k0_part14_eq_skeleton]
  unfold k0_part14_skel
  simp only [semSignalWord, semWaitWord, Prog.lift, Prog.bind_op, Prog.bind_ret, Prog.pure_eq_ret]
  iintro #HR Ho S2 S3 B2 B3 T1 T2 T3 T4 Hk
  unfold barPay
  icases B2 with ⟨⟨%a2, A2⟩, R2⟩
  icases B3 with ⟨⟨%a3, A3⟩, R3⟩
  iapply (asend_step X W K c 2 _ (by decide) (dev5_pr c) _ (amM_of c _ (off3_c c) _) _ _ (sem_asend 2 _ rfl _) (sem_arecv c _ (off2_c c) _) (Oa3 c) (Oa2 c) rfl a2) $$ HR Ho S2 A2 T1 T2
  iintro ⟨Ho, C2⟩
  iapply (asend_step X W K c 3 _ (by decide) (dev6_pr c) _ (amM_of c _ (off3_c c) _) _ _ (sem_asend 3 _ rfl _) (sem_arecv c _ (off2_c c) _) (Oq1 c) (Oa3 c) rfl a3) $$ HR Ho S3 A3 T3 T4
  iintro ⟨Ho, C3⟩
  iapply (ret_step c _)
  iapply Hk
  isplitl [Ho]; · iexact Ho
  isplitl [C2]; · iexact C2
  isplitl [C3]; · iexact C3
  isplitl [R2]; · iexact R2
  iexact R3

/-- A wait for the largest element of the device `d` places on. -/
theorem arecv_wait {α : Type} {Q : α → sProp 𝕄} (c s : Dev nD) (hs : s ≠ c) (sem : DmaSem sig) (hsem : (SemLoc.dma sem : SemLoc sig) = csem (arecvK s))
    {srcw : Memref sig .tc .vmem S8x128 .f32} {dstw : Memref sig .tc .vmem S8x128 .f32} {hsrc : srcw.view.WordExact} {hdst : dstw.view.WordExact}
    (hd : dstw = amM s) {k : PUnit → Prog (TpuEff nD τ sig (Elt F) Λ₀ .tc) α} :
    (records X W K : sProp 𝕄) ⊢ iprop(owesE c (Oq1 c) -∗ cred (tallyAt (kcell (c, arecvK s)) true Na) -∗ atPos ER (kcell (c, arecvK s)) 0 ∅ 0
      -∗ ((owesE c (Oq1 c) ∗ atPos ER (kcell (c, arecvK s)) 1 ∅ 0 ∗ amPts c s (amaxAll X W)) -∗ WP c (k ⟨⟩) Q)
      -∗ WP c (.op (.waitDma2 sem srcw dstw hsrc hdst) k) Q) :=
  wait_step X W K c (arecvK s) Na 2 sem hsem (by rw [hd]) (expect_arecv X W c s hs) (le_of_eq (lv_arecv c s)) (Oq1 c) (above_Oq1 c) _ (rest_arecv X W c s hs)

theorem part15 {Q : (Σ' (v446 : BitVec 32) (c4 : BitVec 32) (v447 : BitVec 1), BitVec 32) → sProp 𝕄} (c : Dev nD) (v2 w1 w2 : BitVec 32) (w3 : BitVec 1) (w4 : BitVec 32) :
    (records X W K : sProp 𝕄) ⊢ iprop(owesE c (Oq1 c) -∗ cred (tallyAt (kcell (c, arecvK (pr c 1))) true Na) -∗ atPos ER (kcell (c, arecvK (pr c 1))) 0 ∅ 0
      -∗ cred (tallyAt (kcell (c, arecvK (pr c 2))) true Na) -∗ atPos ER (kcell (c, arecvK (pr c 2))) 0 ∅ 0
      -∗ (∀ r, (owesE c (Oq1 c) ∗ atPos ER (kcell (c, arecvK (pr c 1))) 1 ∅ 0 ∗ atPos ER (kcell (c, arecvK (pr c 2))) 1 ∅ 0
          ∗ amPts c (pr c 1) (amaxAll X W) ∗ amPts c (pr c 2) (amaxAll X W)) -∗ Q r)
      -∗ WP c (k0_part15 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 w1 w2 w3 w4) Q) := by
  rw [k0_part15_eq_skeleton]
  unfold k0_part15_skel
  simp only [semSignalWord, semWaitWord, Prog.lift, Prog.bind_op, Prog.bind_ret, Prog.pure_eq_ret]
  iintro #HR Ho C1 A1 C2 A2 Hk
  iapply (arecv_wait X W K c (pr c 1) (ne_pr c 1 (by decide)).symm _ (sem_arecv (pr c 1) _ (off4_1 c) _) (amM_of (pr c 1) _ (off11_1 c) _)) $$ HR Ho C1 A1
  iintro ⟨Ho, A1, M1⟩
  iapply (arecv_wait X W K c (pr c 2) (ne_pr c 2 (by decide)).symm _ (sem_arecv (pr c 2) _ (off4_2 c) _) (amM_of (pr c 2) _ (off11_2 c) _)) $$ HR Ho C2 A2
  iintro ⟨Ho, A2, M2⟩
  iapply (ret_step c _)
  iapply Hk
  isplitl [Ho]; · iexact Ho
  isplitl [A1]; · iexact A1
  isplitl [A2]; · iexact A2
  isplitl [M1]; · iexact M1
  iexact M2

theorem part16 {Q : (Σ' (v468 : F .f32) (v469 : F .f32) (v480 : BitVec 32), Vec F S1024x512 .f32) → sProp 𝕄} (c : Dev nD) (v2 w1 w2 : BitVec 32) (w3 : BitVec 1) (w4 : BitVec 32) :
    (records X W K : sProp 𝕄) ⊢ iprop(owesE c (Oq1 c) -∗ cred (tallyAt (kcell (c, arecvK (pr c 3))) true Na) -∗ atPos ER (kcell (c, arecvK (pr c 3))) 0 ∅ 0
      -∗ amPts c c (amaxAll X W) -∗ amPts c (pr c 1) (amaxAll X W) -∗ amPts c (pr c 2) (amaxAll X W) -∗ wpts c cc0_scratch4 (yAll (X c) (W c))
      -∗ (∀ w, (owesE c (Oq1 c) ∗ atPos ER (kcell (c, arecvK (pr c 3))) 1 ∅ 0 ∗ wpts c cc0_scratch9 (amaxAll X W) ∗ wpts c cc0_scratch4 (yAll (X c) (W c)))
          -∗ Q ⟨k0_pay40 (amaxAll X W), k0_pay41 (amaxAll X W), w, yblk X W c (pr c 1)⟩)
      -∗ WP c (k0_part16 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 w1 w2 w3 w4) Q) := by
  rw [k0_part16_eq_skeleton]
  unfold k0_part16_skel
  simp only [semSignalWord, semWaitWord, Prog.lift, Prog.bind_op, Prog.bind_ret, Prog.pure_eq_ret]
  iintro #HR Ho C3 A3 M0 M1 M2 Hy Hk
  iapply (arecv_wait X W K c (pr c 3) (ne_pr c 3 (by decide)).symm _ (sem_arecv (pr c 3) _ (off4_3 c) _) (amM_of (pr c 3) _ (off11_3 c) _)) $$ HR Ho C3 A3
  iintro ⟨Ho, A3, M3⟩
  ihave Hm := (Entails.of_eq ((am_split c (amaxAll X W)).trans (around c fun s => amPts c s (amaxAll X W))).symm) $$ [M0 M1 M2 M3]
  · isplitl [M0]; · iexact M0
    isplitl [M1]; · iexact M1
    isplitl [M2]; · iexact M2
    iexact M3
  iapply (ld_amw c (amaxAll X W)) $$ Hm
  iintro Hm
  iapply (ld_y X W c (pr c 1) _ (off6_1 c) _) $$ Hy
  iintro Hy
  iapply (ret_step c _)
  iapply Hk
  isplitl [Ho]; · iexact Ho
  isplitl [A3]; · iexact A3
  isplitl [Hm]; · iexact Hm
  iexact Hy

end Cert.QK

end
-- ==== Proof.Parts2.lean ====
/-
The blocks quantised and sent.
-/
module

public import proofs.«01_k».proof.Proof.Parts1

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

theorem oblk_self (c : Dev nD) : oblk X W c c = k0_pay47 (inv X W) (scl X W) (yblk X W c c) := if_pos rfl
theorem oblk_ne (c s : Dev nD) (h : s ≠ c) : oblk X W c s = k0_pay48 (scl X W) (qblk X W s c) := if_neg h

theorem part17 {Q : (Σ' (v515 : BitVec 32) (v518 : Vec F S1024x512 .f32), FVec F S1024x512 .f32) → sProp 𝕄} (c : Dev nD) (v2 : BitVec 32) (v468 : F .f32) (h468 : v468 = inv X W) (w : BitVec 32) (f g : IVec S4x1024x512 8) :
    (records X W K : sProp 𝕄) ⊢ iprop(owesE c (Oq1 c) -∗ wpts c cc0_scratch4 (yAll (X c) (W c)) -∗ sdPts c 1 f -∗ rvPts (pr c 1) c g -∗ dutyTok ER (kcell (c, sendK 1)) 0 c -∗ dutyTok ER (kcell (pr c 1, recvK c)) 0 c
      -∗ (∀ w, (owesE c (Oq2 c) ∗ wpts c cc0_scratch4 (yAll (X c) (W c)) ∗ cred (tallyAt (kcell (c, sendK 1)) true Nq)) -∗ Q ⟨w, yblk X W c (pr c 2), k0_pay43 (inv X W)⟩)
      -∗ WP c (k0_part17 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v468 w (yblk X W c (pr c 1))) Q) := by
  subst h468
  rw [k0_part17_eq_skeleton]
  unfold k0_part17_skel
  simp only [semSignalWord, semWaitWord, Prog.lift, Prog.bind_op, Prog.bind_ret, Prog.pure_eq_ret]
  iintro #HR Ho Hy Hs Hr T1 T2 Hk
  iapply (ld_sd c 1 _ rfl _ f _ (fun _ => rfl)) $$ Hs
  iintro Hs
  iapply (st_sd X W c 1 _ rfl _ _ rfl f) $$ Hs
  iintro Hs
  iapply (qsend_step X W K c 1 _ (by decide) (dev7_pr c) _ _ rfl (rvM_of c _ (off7_c c) _) _ _ (sem_send 1 _ rfl _) (sem_recv c _ (off2_c c) _) (Oq2 c) (Oq1 c) rfl g) $$ HR Ho Hs Hr T1 T2
  iintro ⟨Ho, C1⟩
  iapply (ld_y X W c (pr c 2) _ (off6_2 c) _) $$ Hy
  iintro Hy
  iapply (ret_step c _)
  iapply Hk
  isplitl [Ho]; · iexact Ho
  isplitl [Hy]; · iexact Hy
  iexact C1

theorem part18 {Q : (Σ' (v550 : BitVec 32), FVec F S1024x512 .f32) → sProp 𝕄} (c : Dev nD) (v2 : BitVec 32) (v468 : F .f32) (h468 : v468 = inv X W) (w : BitVec 32) (f g : IVec S4x1024x512 8) :
    (records X W K : sProp 𝕄) ⊢ iprop(owesE c (Oq2 c) -∗ wpts c cc0_scratch4 (yAll (X c) (W c)) -∗ sdPts c 2 f -∗ rvPts (pr c 2) c g -∗ dutyTok ER (kcell (c, sendK 2)) 0 c -∗ dutyTok ER (kcell (pr c 2, recvK c)) 0 c
      -∗ (∀ w, (owesE c (Oq3 c) ∗ wpts c cc0_scratch4 (yAll (X c) (W c)) ∗ cred (tallyAt (kcell (c, sendK 2)) true Nq)) -∗ Q ⟨w, k0_pay45 (inv X W) (yblk X W c (pr c 3))⟩)
      -∗ WP c (k0_part18 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v468 w (yblk X W c (pr c 2)) (k0_pay43 (inv X W))) Q) := by
  subst h468
  rw [k0_part18_eq_skeleton]
  unfold k0_part18_skel
  simp only [semSignalWord, semWaitWord, Prog.lift, Prog.bind_op, Prog.bind_ret, Prog.pure_eq_ret]
  iintro #HR Ho Hy Hs Hr T1 T2 Hk
  iapply (ld_sd c 2 _ rfl _ f _ (fun _ => rfl)) $$ Hs
  iintro Hs
  iapply (st_sd X W c 2 _ rfl _ _ rfl f) $$ Hs
  iintro Hs
  iapply (qsend_step X W K c 2 _ (by decide) (dev8_pr c) _ _ rfl (rvM_of c _ (off7_c c) _) _ _ (sem_send 2 _ rfl _) (sem_recv c _ (off2_c c) _) (Oq3 c) (Oq2 c) rfl g) $$ HR Ho Hs Hr T1 T2
  iintro ⟨Ho, C1⟩
  iapply (ld_y X W c (pr c 3) _ (off6_3 c) _) $$ Hy
  iintro Hy
  iapply (ret_step c _)
  iapply Hk
  isplitl [Ho]; · iexact Ho
  isplitl [Hy]; · iexact Hy
  iexact C1

theorem part19 {Q : PUnit → sProp 𝕄} (c : Dev nD) (v2 : BitVec 32) (v468 v469 : F .f32) (h468 : v468 = inv X W) (h469 : v469 = scl X W) (w : BitVec 32) (f g : IVec S4x1024x512 8) (h : FVec F S2x1024x512 .f32) :
    (records X W K : sProp 𝕄) ⊢ iprop(owesE c (Oq3 c) -∗ wpts c cc0_scratch4 (yAll (X c) (W c)) -∗ sdPts c 3 f -∗ rvPts (pr c 3) c g -∗ dutyTok ER (kcell (c, sendK 3)) 0 c -∗ dutyTok ER (kcell (pr c 3, recvK c)) 0 c -∗ dqPts c 0 h
      -∗ ((owesE c 0 ∗ wpts c cc0_scratch4 (yAll (X c) (W c)) ∗ cred (tallyAt (kcell (c, sendK 3)) true Nq) ∗ dqPts c 0 (dqC X W c c)) -∗ Q ⟨⟩)
      -∗ WP c (k0_part19 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v468 v469 w (k0_pay45 (inv X W) (yblk X W c (pr c 3)))) Q) := by
  subst h468 h469
  rw [k0_part19_eq_skeleton]
  unfold k0_part19_skel
  simp only [semSignalWord, semWaitWord, Prog.lift, Prog.bind_op, Prog.bind_ret, Prog.pure_eq_ret]
  iintro #HR Ho Hy Hs Hr T1 T2 Hd Hk
  iapply (ld_sd c 3 _ rfl _ f _ (fun _ => rfl)) $$ Hs
  iintro Hs
  iapply (st_sd X W c 3 _ rfl _ _ rfl f) $$ Hs
  iintro Hs
  iapply (qsend_step X W K c 3 _ (by decide) (dev9_pr c) _ _ rfl (rvM_of c _ (off7_c c) _) _ _ (sem_send 3 _ rfl _) (sem_recv c _ (off2_c c) _) 0 (Oq3 c) (zero_add _).symm g) $$ HR Ho Hs Hr T1 T2
  iintro ⟨Ho, C1⟩
  iapply (ld_y X W c c _ (off8_c c) _) $$ Hy
  iintro Hy
  iapply (ld_dq c 0 _ rfl _ h _ (fun _ => rfl)) $$ Hd
  iintro Hd
  iapply (st_dq X W c c 0 _ rfl _ _ (oblk_self X W c).symm h) $$ Hd
  iintro Hd
  iapply (ret_step c _)
  iapply Hk
  isplitl [Ho]; · iexact Ho
  isplitl [Hy]; · iexact Hy
  isplitl [C1]; · iexact C1
  iexact Hd

end Cert.QK

end
-- ==== Proof.Parts3.lean ====
/-
The received blocks, the row blocks of the result, and the last waits.
-/
module

public import proofs.«01_k».proof.Proof.Parts2

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

/-- A wait for the block of the device `s`. -/
theorem recv_wait {α : Type} {Q : α → sProp 𝕄} (c s : Dev nD) (hs : s ≠ c) (sem : DmaSem sig) (hsem : (SemLoc.dma sem : SemLoc sig) = csem (recvK s))
    {srcw : Memref sig .tc .vmem S1024x512 .i8} {dstw : Memref sig .tc .vmem S1024x512 .i8} {hsrc : srcw.view.WordExact} {hdst : dstw.view.WordExact}
    (hd : dstw = rvM s) {k : PUnit → Prog (TpuEff nD τ sig (Elt F) Λ₀ .tc) α} :
    (records X W K : sProp 𝕄) ⊢ iprop(owesE c 0 -∗ cred (tallyAt (kcell (c, recvK s)) true Nq) -∗ atPos ER (kcell (c, recvK s)) 0 ∅ 0
      -∗ ((owesE c 0 ∗ atPos ER (kcell (c, recvK s)) 1 ∅ 0 ∗ rvPts c s (rAll X W c)) -∗ WP c (k ⟨⟩) Q)
      -∗ WP c (.op (.waitDma2 sem srcw dstw hsrc hdst) k) Q) :=
  wait_step X W K c (recvK s) Nq 3 sem hsem (by rw [hd]) (expect_recv X W c s hs) (le_of_eq (lv_recv c s)) 0 (above_zero 3) _ (rest_recv X W c s hs)

/-- A wait for a send of a block. -/
theorem send_wait {α : Type} {Q : α → sProp 𝕄} (c d : Dev nD) (hd : d.val ≠ 0) (sem : DmaSem sig) (hsem : (SemLoc.dma sem : SemLoc sig) = csem (sendK d))
    {srcw : Memref sig .tc .vmem S1024x512 .i8} {dstw : Memref sig .tc .vmem S1024x512 .i8} {hsrc : srcw.view.WordExact} {hdst : dstw.view.WordExact}
    (hdw : dstw = sdM d) {k : PUnit → Prog (TpuEff nD τ sig (Elt F) Λ₀ .tc) α} :
    (records X W K : sProp 𝕄) ⊢ iprop(owesE c 0 -∗ cred (tallyAt (kcell (c, sendK d)) true Nq) -∗ atPos ER (kcell (c, sendK d)) 0 ∅ 0
      -∗ ((owesE c 0 ∗ atPos ER (kcell (c, sendK d)) 1 ∅ 0 ∗ (∃ f, sdPts (F := F) c d f)) -∗ WP c (k ⟨⟩) Q)
      -∗ WP c (.op (.waitDma2 sem srcw dstw hsrc hdst) k) Q) :=
  wait_step X W K c (sendK d) Nq 3 sem hsem (by rw [hdw]) (expect_send X W c d hd) (by rw [lv_send]; decide) 0 (above_zero 3) _ (rest_send X W c d hd)

theorem credit_as : asM.view.dmaCredit = Na := by decide
theorem rest_asend' (c d : Dev nD) (h : d.val ≠ 0) : bigSep ((Rd X W).duties (kcell (c, asendK d)) 0 \ ∅) (fun e => (Rd X W).payload (kcell (c, asendK d)) 0 e)
    = asPts c (aq d) (fun _ => lmax (X c) (W c)) := by
  rw [rest_asend X W c d h, asendPay]

/-- A wait for a send of the largest element. -/
theorem asend_wait {α : Type} {Q : α → sProp 𝕄} (c d : Dev nD) (hd : d.val ≠ 0) (sem : DmaSem sig) (hsem : (SemLoc.dma sem : SemLoc sig) = csem (asendK d))
    {srcw : Memref sig .tc .vmem S8x128 .f32} {hsrc : srcw.view.WordExact} {hdst : asM.view.WordExact}
    {k : PUnit → Prog (TpuEff nD τ sig (Elt F) Λ₀ .tc) α} :
    (records X W K : sProp 𝕄) ⊢ iprop(owesE c 0 -∗ cred (tallyAt (kcell (c, asendK d)) true Na) -∗ atPos ER (kcell (c, asendK d)) 0 ∅ 0
      -∗ ((owesE c 0 ∗ atPos ER (kcell (c, asendK d)) 1 ∅ 0 ∗ asPts c (aq d) (fun _ => lmax (X c) (W c))) -∗ WP c (k ⟨⟩) Q)
      -∗ WP c (.op (.waitDma2 sem srcw asM hsrc hdst) k) Q) :=
  wait_step X W K c (asendK d) Na 3 sem hsem credit_as (expect_asend X W c d hd) (by rw [lv_asend]; decide) 0 (above_zero 3) (asPts c (aq d) (fun _ => lmax (X c) (W c))) (rest_asend' X W c d hd)

/-- A wait for a row block's copy into the result. -/
theorem out_wait {α : Type} {Q : α → sProp 𝕄} (c s : Dev nD) (j : Fin 2) (sem : DmaSem sig) (hsem : (SemLoc.dma sem : SemLoc sig) = outS j)
    {srcw : Memref sig .tc .vmem S1024x512 .f32} {dstw : Memref sig .tc .hbm S1024x512 .f32} {hsrc : srcw.view.WordExact} {hdst : dstw.view.WordExact}
    (hd : dstw = orM s) {k : PUnit → Prog (TpuEff nD τ sig (Elt F) Λ₀ .tc) α} :
    (outFl X W c s j : sProp 𝕄) ⊢ iprop(owesE c 0
      -∗ ((orPts c s (outAll X W c) ∗ dqPts c j (dqC X W c s) ∗ semVal ((c : Thread nD τ), outS j) 0 ∗ owesE c 0) -∗ WP c (k ⟨⟩) Q)
      -∗ WP c (.op (.waitDma2 sem srcw dstw hsrc hdst) k) Q) :=
  outwait_step X W c s j sem hsem (by rw [hd])

theorem part20 {Q : BitVec 32 → sProp 𝕄} (c : Dev nD) (v2 : BitVec 32) (v469 : F .f32) (h469 : v469 = scl X W) (f : FVec F S4096x512 .f32) (h : FVec F S2x1024x512 .f32) :
    (records X W K : sProp 𝕄) ⊢ iprop(owesE c 0 -∗ dqPts c 0 (dqC X W c c) -∗ orPts c c f -∗ semVal ((c : Thread nD τ), outS 0) 0 -∗ cred (tallyAt (kcell (c, recvK (pr c 1))) true Nq) -∗ atPos ER (kcell (c, recvK (pr c 1))) 0 ∅ 0 -∗ dqPts c 1 h
      -∗ (∀ w, (owesE c 0 ∗ outFl X W c c 0 ∗ atPos ER (kcell (c, recvK (pr c 1))) 1 ∅ 0 ∗ rvPts c (pr c 1) (rAll X W c) ∗ dqPts c 1 (dqC X W c (pr c 1))) -∗ Q w)
      -∗ WP c (k0_part20 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v469) Q) := by
  subst h469
  rw [k0_part20_eq_skeleton]
  unfold k0_part20_skel
  simp only [semSignalWord, semWaitWord, Prog.lift, Prog.bind_op, Prog.bind_ret, Prog.pure_eq_ret]
  iintro #HR Ho D0 Hf S0 C1 A1 D1 Hk
  iapply (out_step X W c c 0 _ _ rfl (orM_of c _ (off9_c c) _) _ sem_out0 f) $$ D0 Hf S0
  iintro F0
  iapply (recv_wait X W K c (pr c 1) (ne_pr c 1 (by decide)).symm _ (sem_recv (pr c 1) _ (off4_1 c) _) (rvM_of (pr c 1) _ (off11_1 c) _)) $$ HR Ho C1 A1
  iintro ⟨Ho, A1, R1⟩
  iapply (ld_rv X W c (pr c 1) _ (off11_1 c) _) $$ R1
  iintro R1
  iapply (ld_dq c 1 _ rfl _ h _ (fun _ => rfl)) $$ D1
  iintro D1
  iapply (st_dq X W c (pr c 1) 1 _ rfl _ _ (oblk_ne X W c (pr c 1) (ne_pr c 1 (by decide)).symm).symm h) $$ D1
  iintro D1
  iapply (ret_step c _)
  iapply Hk
  isplitl [Ho]; · iexact Ho
  isplitl [F0]; · iexact F0
  isplitl [A1]; · iexact A1
  isplitl [R1]; · iexact R1
  iexact D1

theorem part21 {Q : BitVec 32 → sProp 𝕄} (c : Dev nD) (v2 w : BitVec 32) (f : FVec F S4096x512 .f32) :
    (records X W K : sProp 𝕄) ⊢ iprop(owesE c 0 -∗ dqPts c 1 (dqC X W c (pr c 1)) -∗ orPts c (pr c 1) f -∗ semVal ((c : Thread nD τ), outS 1) 0 -∗ cred (tallyAt (kcell (c, recvK (pr c 2))) true Nq) -∗ atPos ER (kcell (c, recvK (pr c 2))) 0 ∅ 0 -∗ outFl X W c c 0
      -∗ (∀ w, (owesE c 0 ∗ outFl X W c (pr c 1) 1 ∗ atPos ER (kcell (c, recvK (pr c 2))) 1 ∅ 0 ∗ rvPts c (pr c 2) (rAll X W c) ∗ orPts c c (outAll X W c) ∗ dqPts c 0 (dqC X W c c) ∗ semVal ((c : Thread nD τ), outS 0) 0) -∗ Q w)
      -∗ WP c (k0_part21 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 w) Q) := by
  rw [k0_part21_eq_skeleton]
  unfold k0_part21_skel
  simp only [semSignalWord, semWaitWord, Prog.lift, Prog.bind_op, Prog.bind_ret, Prog.pure_eq_ret]
  iintro #HR Ho D1 Hf S1 C2 A2 F0 Hk
  iapply (out_step X W c (pr c 1) 1 _ _ rfl (orM_of (pr c 1) _ (off12_1 c) _) _ sem_out1 f) $$ D1 Hf S1
  iintro F1
  iapply (recv_wait X W K c (pr c 2) (ne_pr c 2 (by decide)).symm _ (sem_recv (pr c 2) _ (off4_2 c) _) (rvM_of (pr c 2) _ (off11_2 c) _)) $$ HR Ho C2 A2
  iintro ⟨Ho, A2, R2⟩
  iapply (out_wait X W c c 0 _ sem_out0 (orM_of c _ (off9_c c) _)) $$ F0 Ho
  iintro ⟨O0, D0, S0, Ho⟩
  iapply (ret_step c _)
  iapply Hk
  isplitl [Ho]; · iexact Ho
  isplitl [F1]; · iexact F1
  isplitl [A2]; · iexact A2
  isplitl [R2]; · iexact R2
  isplitl [O0]; · iexact O0
  isplitl [D0]; · iexact D0
  iexact S0

theorem part22 {Q : BitVec 32 → sProp 𝕄} (c : Dev nD) (v2 : BitVec 32) (v469 : F .f32) (h469 : v469 = scl X W) (w : BitVec 32) (f : FVec F S4096x512 .f32) :
    (records X W K : sProp 𝕄) ⊢ iprop(rvPts c (pr c 2) (rAll X W c) -∗ dqPts c 0 (dqC X W c c) -∗ orPts c (pr c 2) f -∗ semVal ((c : Thread nD τ), outS 0) 0
      -∗ (∀ w, (rvPts c (pr c 2) (rAll X W c) ∗ outFl X W c (pr c 2) 0) -∗ Q w)
      -∗ WP c (k0_part22 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v2 v469 w) Q) := by
  subst h469
  rw [k0_part22_eq_skeleton]
  unfold k0_part22_skel
  simp only [semSignalWord, semWaitWord, Prog.lift, Prog.bind_op, Prog.bind_ret, Prog.pure_eq_ret]
  iintro #HR R2 D0 Hf S0 Hk
  iapply (ld_rv X W c (pr c 2) _ (off11_2 c) _) $$ R2
  iintro R2
  iapply (ld_dq c 0 _ rfl _ _ _ (fun _ => rfl)) $$ D0
  iintro D0
  iapply (st_dq X W c (pr c 2) 0 _ rfl _ _ (oblk_ne X W c (pr c 2) (ne_pr c 2 (by decide)).symm).symm (dqC X W c c)) $$ D0
  iintro D0
  iapply (out_step X W c (pr c 2) 0 _ _ rfl (orM_of (pr c 2) _ (off12_2 c) _) _ sem_out0 f) $$ D0 Hf S0
  iintro F0
  iapply (ret_step c _)
  iapply Hk
  isplitl [R2]; · iexact R2
  iexact F0

theorem part23 {Q : PUnit → sProp 𝕄} (c : Dev nD) (v469 : F .f32) (h469 : v469 = scl X W) (w : BitVec 32) (f : FVec F S4096x512 .f32) :
    (records X W K : sProp 𝕄) ⊢ iprop(owesE c 0 -∗ cred (tallyAt (kcell (c, recvK (pr c 3))) true Nq) -∗ atPos ER (kcell (c, recvK (pr c 3))) 0 ∅ 0 -∗ outFl X W c (pr c 1) 1 -∗ outFl X W c (pr c 2) 0 -∗ orPts c (pr c 3) f
      -∗ ((owesE c 0 ∗ outFl X W c (pr c 3) 1 ∗ atPos ER (kcell (c, recvK (pr c 3))) 1 ∅ 0 ∗ rvPts c (pr c 3) (rAll X W c) ∗ orPts c (pr c 1) (outAll X W c) ∗ orPts c (pr c 2) (outAll X W c) ∗ dqPts c 0 (dqC X W c (pr c 2)) ∗ semVal ((c : Thread nD τ), outS 0) 0) -∗ Q ⟨⟩)
      -∗ WP c (k0_part23 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c v469 w) Q) := by
  subst h469
  rw [k0_part23_eq_skeleton]
  unfold k0_part23_skel
  simp only [semSignalWord, semWaitWord, Prog.lift, Prog.bind_op, Prog.bind_ret, Prog.pure_eq_ret]
  iintro #HR Ho C3 A3 F1 F0 Hf Hk
  iapply (recv_wait X W K c (pr c 3) (ne_pr c 3 (by decide)).symm _ (sem_recv (pr c 3) _ (off4_3 c) _) (rvM_of (pr c 3) _ (off11_3 c) _)) $$ HR Ho C3 A3
  iintro ⟨Ho, A3, R3⟩
  iapply (out_wait X W c (pr c 1) 1 _ sem_out1 (orM_of (pr c 1) _ (off12_1 c) _)) $$ F1 Ho
  iintro ⟨O1, D1, S1, Ho⟩
  iapply (ld_rv X W c (pr c 3) _ (off11_3 c) _) $$ R3
  iintro R3
  iapply (ld_dq c 1 _ rfl _ _ _ (fun _ => rfl)) $$ D1
  iintro D1
  iapply (st_dq X W c (pr c 3) 1 _ rfl _ _ (oblk_ne X W c (pr c 3) (ne_pr c 3 (by decide)).symm).symm (dqC X W c (pr c 1))) $$ D1
  iintro D1
  iapply (out_step X W c (pr c 3) 1 _ _ rfl (orM_of (pr c 3) _ (off12_3 c) _) _ sem_out1 f) $$ D1 Hf S1
  iintro F1
  iapply (out_wait X W c (pr c 2) 0 _ sem_out0 (orM_of (pr c 2) _ (off12_2 c) _)) $$ F0 Ho
  iintro ⟨O2, D0, S0, Ho⟩
  iapply (ret_step c _)
  iapply Hk
  isplitl [Ho]; · iexact Ho
  isplitl [F1]; · iexact F1
  isplitl [A3]; · iexact A3
  isplitl [R3]; · iexact R3
  isplitl [O1]; · iexact O1
  isplitl [O2]; · iexact O2
  isplitl [D0]; · iexact D0
  iexact S0

theorem part24 {Q : PUnit → sProp 𝕄} (c : Dev nD) :
    (records X W K : sProp 𝕄) ⊢ iprop(owesE c 0 -∗ outFl X W c (pr c 3) 1 -∗ cred (tallyAt (kcell (c, asendK 1)) true Na) -∗ cred (tallyAt (kcell (c, asendK 2)) true Na) -∗ cred (tallyAt (kcell (c, asendK 3)) true Na) -∗ cred (tallyAt (kcell (c, sendK 1)) true Nq) -∗ cred (tallyAt (kcell (c, sendK 2)) true Nq)
      -∗ atPos ER (kcell (c, asendK 1)) 0 ∅ 0 -∗ atPos ER (kcell (c, asendK 2)) 0 ∅ 0 -∗ atPos ER (kcell (c, asendK 3)) 0 ∅ 0 -∗ atPos ER (kcell (c, sendK 1)) 0 ∅ 0 -∗ atPos ER (kcell (c, sendK 2)) 0 ∅ 0
      -∗ ((owesE c 0 ∗ orPts c (pr c 3) (outAll X W c) ∗ dqPts c 1 (dqC X W c (pr c 3)) ∗ semVal ((c : Thread nD τ), outS 1) 0 ∗ atPos ER (kcell (c, asendK 1)) 1 ∅ 0 ∗ atPos ER (kcell (c, asendK 2)) 1 ∅ 0 ∗ atPos ER (kcell (c, asendK 3)) 1 ∅ 0 ∗ atPos ER (kcell (c, sendK 1)) 1 ∅ 0 ∗ atPos ER (kcell (c, sendK 2)) 1 ∅ 0
          ∗ wpts c cc0_scratch8 (fun _ => lmax (X c) (W c)) ∗ (∃ f, sdPts (F := F) c 1 f) ∗ (∃ f, sdPts (F := F) c 2 f)) -∗ Q ⟨⟩)
      -∗ WP c (k0_part24 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 c) Q) := by
  rw [k0_part24_eq_skeleton]
  unfold k0_part24_skel
  simp only [semSignalWord, semWaitWord, Prog.lift, Prog.bind_op, Prog.bind_ret, Prog.pure_eq_ret]
  iintro #HR Ho F1 B1 B2 B3 C1 C2 A1 A2 A3 E1 E2 Hk
  iapply (out_wait X W c (pr c 3) 1 _ sem_out1 (orM_of (pr c 3) _ (off12_3 c) _)) $$ F1 Ho
  iintro ⟨O3, D1, S1, Ho⟩
  iapply (asend_wait X W K c 1 (by decide) _ (sem_asend 1 _ rfl _)) $$ HR Ho B1 A1
  iintro ⟨Ho, A1, Q1⟩
  iapply (asend_wait X W K c 2 (by decide) _ (sem_asend 2 _ rfl _)) $$ HR Ho B2 A2
  iintro ⟨Ho, A2, Q2⟩
  iapply (asend_wait X W K c 3 (by decide) _ (sem_asend 3 _ rfl _)) $$ HR Ho B3 A3
  iintro ⟨Ho, A3, Q3⟩
  iapply (send_wait X W K c 1 (by decide) _ (sem_send 1 _ rfl _) rfl) $$ HR Ho C1 E1
  iintro ⟨Ho, E1, G1⟩
  iapply (send_wait X W K c 2 (by decide) _ (sem_send 2 _ rfl _) rfl) $$ HR Ho C2 E2
  iintro ⟨Ho, E2, G2⟩
  ihave Hs := (as_split c (fun _ => lmax (X c) (W c))).2 $$ [Q1 Q2 Q3]
  · isplitl [Q1]; · iexact Q1
    isplitl [Q2]; · iexact Q2
    iexact Q3
  iapply (ret_step c _)
  iapply Hk
  isplitl [Ho]; · iexact Ho
  isplitl [O3]; · iexact O3
  isplitl [D1]; · iexact D1
  isplitl [S1]; · iexact S1
  isplitl [A1]; · iexact A1
  isplitl [A2]; · iexact A2
  isplitl [A3]; · iexact A3
  isplitl [E1]; · iexact E1
  isplitl [E2]; · iexact E2
  isplitl [Hs]; · iexact Hs
  isplitl [G1]; · iexact G1
  iexact G2

end Cert.QK

end
-- ==== Proof.StageA.lean ====
module

public import proofs.«01_k».proof.Proof.Slots

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)
open Idealize.ShloMosaic.Tactic

variable {F : FTy → Type} [FloatOps F]
local notation "𝕄" => MT nD τ sig Bool (Elt F) ℕ UU ℕ

def progA : Prog (TpuEff nD τ sig (Elt F) Λ₀ .tc) (Σ' (d0 : Dev nD) (v2 : BitVec 32) (v305 : F .f32) (v306 : Sems sig S_) (v309 : BitVec 32) (v310 : BitVec 32) (v311 : BitVec 1) (v312 : BitVec 1), BitVec 1) := do
  let ⟨d0, v2⟩ ← k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  k0_part2 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  k0_part3 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v105 ← k0_part4 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v134 ← k0_part5 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v163 ← k0_part6 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v192 ← k0_part7 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v221 ← k0_part8 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v250 ← k0_part9 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let v274 ← k0_part10 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
  let ⟨v305, v306, v309, v310, v311, v312, v313⟩ ← k0_part11 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 v2 v105 v134 v163 v192 v221 v250 v274
  pure ⟨d0, v2, v305, v306, v309, v310, v311, v312, v313⟩

/-- What the first eleven parts leave: the operands as they were, the rectified product complete, its largest element
    returned, the semaphores of the copies back at zero. -/
def postA (c : Dev nD) (O : CellTallies nD τ sig Bool) (fx : FVec F S1024x4096 .f32) (fw : FVec F S4096x2048 .f32)
    (r : Σ' (d0 : Dev nD) (v2 : BitVec 32) (v305 : F .f32) (v306 : Sems sig S_) (v309 : BitVec 32) (v310 : BitVec 32) (v311 : BitVec 1) (v312 : BitVec 1), BitVec 1) :
    sProp 𝕄 :=
  iprop(⌜r.1 = c ∧ r.2.2.1 = lmax fx fw ∧ r.2.2.2.1 = SemArray.scalar (sig.barrier 0 rfl)⌝
    ∗ (∃ W : Waits sig Bool, owes (c : Thread nD τ) O W)
    ∗ ((Memref.whole main_arg0).view.loc (c : Thread nD τ) ↦[Finset.univ]{fullShare} fx)
    ∗ ((Memref.whole main_arg1).view.loc (c : Thread nD τ) ↦[Finset.univ]{fullShare} fw)
    ∗ (∃ f, ((Memref.whole cc0_scratch0).view.loc (c : Thread nD τ) ↦[Finset.univ]{fullShare} f)) ∗ (∃ f, ((Memref.whole cc0_scratch1).view.loc (c : Thread nD τ) ↦[Finset.univ]{fullShare} f)) ∗ (∃ f, ((Memref.whole cc0_scratch2).view.loc (c : Thread nD τ) ↦[Finset.univ]{fullShare} f)) ∗ (∃ f, ((Memref.whole cc0_scratch3).view.loc (c : Thread nD τ) ↦[Finset.univ]{fullShare} f))
    ∗ ((Memref.whole cc0_scratch4).view.loc (c : Thread nD τ) ↦[Finset.univ]{fullShare} (yAll fx fw))
    ∗ semVal ((c : Thread nD τ), SemLoc.dma ((cc0_scratch10.slice (Rect.unit (s := S4) ![0] S1.size inb_S4_S1_0)).squeeze S_ squeezes_S1_S_).sem) 0
    ∗ semVal ((c : Thread nD τ), SemLoc.dma ((cc0_scratch10.slice (Rect.unit (s := S4) ![1] S1.size inb_S4_S1_1)).squeeze S_ squeezes_S1_S_).sem) 0
    ∗ semVal ((c : Thread nD τ), SemLoc.dma ((cc0_scratch10.slice (Rect.unit (s := S4) ![2] S1.size inb_S4_S1_2)).squeeze S_ squeezes_S1_S_).sem) 0
    ∗ semVal ((c : Thread nD τ), SemLoc.dma ((cc0_scratch10.slice (Rect.unit (s := S4) ![3] S1.size inb_S4_S1_3)).squeeze S_ squeezes_S1_S_).sem) 0)

set_option maxHeartbeats 4000000 in
theorem runA (c : Dev nD) (O : CellTallies nD τ sig Bool) (W : Waits sig Bool)
    (fx) (fw) (f3 f4 f5 f6 f7) :
    iprop(MayWaits (c : Thread nD τ) false O ∗ owes (c : Thread nD τ) O W
      ∗ ((Memref.whole main_arg0).view.loc (c : Thread nD τ) ↦[Finset.univ]{fullShare} fx)
      ∗ ((Memref.whole main_arg1).view.loc (c : Thread nD τ) ↦[Finset.univ]{fullShare} fw)
      ∗ ((Memref.whole cc0_scratch0).view.loc (c : Thread nD τ) ↦[Finset.univ]{fullShare} f3)
      ∗ ((Memref.whole cc0_scratch1).view.loc (c : Thread nD τ) ↦[Finset.univ]{fullShare} f4)
      ∗ ((Memref.whole cc0_scratch2).view.loc (c : Thread nD τ) ↦[Finset.univ]{fullShare} f5)
      ∗ ((Memref.whole cc0_scratch3).view.loc (c : Thread nD τ) ↦[Finset.univ]{fullShare} f6)
      ∗ ((Memref.whole cc0_scratch4).view.loc (c : Thread nD τ) ↦[Finset.univ]{fullShare} f7)
      ∗ semVal ((c : Thread nD τ), SemLoc.dma ((cc0_scratch10.slice (Rect.unit (s := S4) ![0] S1.size inb_S4_S1_0)).squeeze S_ squeezes_S1_S_).sem) 0
      ∗ semVal ((c : Thread nD τ), SemLoc.dma ((cc0_scratch10.slice (Rect.unit (s := S4) ![1] S1.size inb_S4_S1_1)).squeeze S_ squeezes_S1_S_).sem) 0
      ∗ semVal ((c : Thread nD τ), SemLoc.dma ((cc0_scratch10.slice (Rect.unit (s := S4) ![2] S1.size inb_S4_S1_2)).squeeze S_ squeezes_S1_S_).sem) 0
      ∗ semVal ((c : Thread nD τ), SemLoc.dma ((cc0_scratch10.slice (Rect.unit (s := S4) ![3] S1.size inb_S4_S1_3)).squeeze S_ squeezes_S1_S_).sem) 0)
    ⊢ wp frame (wpE (defs₀ (F := F)) 𝒱₀ (c : Thread nD τ) none) Set.univ (progA (F := F)) (postA c O fx fw) := by
  iintro ⟨#Hmw, Ho, Hx, Hw, H3, H4, H5, H6, H7, S0, S1, S2, S3⟩
  unfold progA
  set_option sl_exec.dmaWindow true in sl_exec
  have hx : runA.sl.v93 c fx f3 = xb fx := by
    refine xb_cov _ fx _ _ _ _ ?_ ?_ ?_ ?_
    · exact (congrArg (fun u => shapeCast S256x4096 u shapeCasts_S1x256x4096_S256x4096) (slot_miss (Val := Elt F) (Memref.whole cc0_scratch0) (Rect.unit (s := S2x256x4096) ![0, 0, 0] S1x256x4096.size inb_S2x256x4096_S1x256x4096_0_0_0) (Rect.unit (s := S2x256x4096) ![1, 0, 0] S1x256x4096.size inb_S2x256x4096_S1x256x4096_1_0_0) (fun _ => rfl) squeezes_S1x256x4096_S256x4096 x_disj01 _ _)).trans ((slot_hit (Val := Elt F) (Memref.whole cc0_scratch0) (Rect.unit (s := S2x256x4096) ![0, 0, 0] S1x256x4096.size inb_S2x256x4096_S1x256x4096_0_0_0) (fun _ => rfl) squeezes_S1x256x4096_S256x4096 shapeCasts_S1x256x4096_S256x4096 _ _).trans (by rfl))
    · exact (congrArg (fun u => shapeCast S256x4096 u shapeCasts_S1x256x4096_S256x4096) (slot_miss (Val := Elt F) (Memref.whole cc0_scratch0) (Rect.unit (s := S2x256x4096) ![1, 0, 0] S1x256x4096.size inb_S2x256x4096_S1x256x4096_1_0_0) (Rect.unit (s := S2x256x4096) ![0, 0, 0] S1x256x4096.size inb_S2x256x4096_S1x256x4096_0_0_0) (fun _ => rfl) squeezes_S1x256x4096_S256x4096 x_disj01.symm _ _)).trans ((slot_hit (Val := Elt F) (Memref.whole cc0_scratch0) (Rect.unit (s := S2x256x4096) ![1, 0, 0] S1x256x4096.size inb_S2x256x4096_S1x256x4096_1_0_0) (fun _ => rfl) squeezes_S1x256x4096_S256x4096 shapeCasts_S1x256x4096_S256x4096 _ _).trans (by rfl))
    · exact (congrArg (fun u => shapeCast S256x4096 u shapeCasts_S1x256x4096_S256x4096) (slot_miss (Val := Elt F) (Memref.whole cc0_scratch0) (Rect.unit (s := S2x256x4096) ![0, 0, 0] S1x256x4096.size inb_S2x256x4096_S1x256x4096_0_0_0) (Rect.unit (s := S2x256x4096) ![1, 0, 0] S1x256x4096.size inb_S2x256x4096_S1x256x4096_1_0_0) (fun _ => rfl) squeezes_S1x256x4096_S256x4096 x_disj01 _ _)).trans ((slot_hit (Val := Elt F) (Memref.whole cc0_scratch0) (Rect.unit (s := S2x256x4096) ![0, 0, 0] S1x256x4096.size inb_S2x256x4096_S1x256x4096_0_0_0) (fun _ => rfl) squeezes_S1x256x4096_S256x4096 shapeCasts_S1x256x4096_S256x4096 _ _).trans (by rfl))
    · exact (slot_hit (Val := Elt F) (Memref.whole cc0_scratch0) (Rect.unit (s := S2x256x4096) ![1, 0, 0] S1x256x4096.size inb_S2x256x4096_S1x256x4096_1_0_0) (fun _ => rfl) squeezes_S1x256x4096_S256x4096 shapeCasts_S1x256x4096_S256x4096 _ _).trans (by rfl)
  have hw0 : runA.sl.v94 c fw f4 = wb fw 0 := by
    refine wb_cov _ fw 0 ![0, 0, 0] inb_S2x4096x256_S1x4096x256_0_0_0 _ _ ?_
    exact (congrArg (fun u => shapeCast S4096x256 u shapeCasts_S1x4096x256_S4096x256) (slot_miss (Val := Elt F) (Memref.whole cc0_scratch1) (Rect.unit (s := S2x4096x256) ![0, 0, 0] S1x4096x256.size inb_S2x4096x256_S1x4096x256_0_0_0) (Rect.unit (s := S2x4096x256) ![1, 0, 0] S1x4096x256.size inb_S2x4096x256_S1x4096x256_1_0_0) (fun _ => rfl) squeezes_S1x4096x256_S4096x256 w_disj01 _ _)).trans ((slot_hit (Val := Elt F) (Memref.whole cc0_scratch1) (Rect.unit (s := S2x4096x256) ![0, 0, 0] S1x4096x256.size inb_S2x4096x256_S1x4096x256_0_0_0) (fun _ => rfl) squeezes_S1x4096x256_S4096x256 shapeCasts_S1x4096x256_S4096x256 _ _).trans (by rfl))
  have hw1 : runA.sl.v123 c fw f4 = wb fw 1 := by
    refine wb_cov _ fw 1 ![1, 0, 0] inb_S2x4096x256_S1x4096x256_1_0_0 _ _ ?_
    exact (congrArg (fun u => shapeCast S4096x256 u shapeCasts_S1x4096x256_S4096x256) (slot_miss (Val := Elt F) (Memref.whole cc0_scratch1) (Rect.unit (s := S2x4096x256) ![1, 0, 0] S1x4096x256.size inb_S2x4096x256_S1x4096x256_1_0_0) (Rect.unit (s := S2x4096x256) ![0, 0, 0] S1x4096x256.size inb_S2x4096x256_S1x4096x256_0_0_0) (fun _ => rfl) squeezes_S1x4096x256_S4096x256 w_disj01.symm _ _)).trans ((slot_hit (Val := Elt F) (Memref.whole cc0_scratch1) (Rect.unit (s := S2x4096x256) ![1, 0, 0] S1x4096x256.size inb_S2x4096x256_S1x4096x256_1_0_0) (fun _ => rfl) squeezes_S1x4096x256_S4096x256 shapeCasts_S1x4096x256_S4096x256 _ _).trans (by rfl))
  have hw2 : runA.sl.v152 c fw f4 = wb fw 2 := by
    refine wb_cov _ fw 2 ![0, 0, 0] inb_S2x4096x256_S1x4096x256_0_0_0 _ _ ?_
    exact (congrArg (fun u => shapeCast S4096x256 u shapeCasts_S1x4096x256_S4096x256) (slot_miss (Val := Elt F) (Memref.whole cc0_scratch1) (Rect.unit (s := S2x4096x256) ![0, 0, 0] S1x4096x256.size inb_S2x4096x256_S1x4096x256_0_0_0) (Rect.unit (s := S2x4096x256) ![1, 0, 0] S1x4096x256.size inb_S2x4096x256_S1x4096x256_1_0_0) (fun _ => rfl) squeezes_S1x4096x256_S4096x256 w_disj01 _ _)).trans ((slot_hit (Val := Elt F) (Memref.whole cc0_scratch1) (Rect.unit (s := S2x4096x256) ![0, 0, 0] S1x4096x256.size inb_S2x4096x256_S1x4096x256_0_0_0) (fun _ => rfl) squeezes_S1x4096x256_S4096x256 shapeCasts_S1x4096x256_S4096x256 _ _).trans (by rfl))
  have hw3 : runA.sl.v181 c fw f4 = wb fw 3 := by
    refine wb_cov _ fw 3 ![1, 0, 0] inb_S2x4096x256_S1x4096x256_1_0_0 _ _ ?_
    exact (congrArg (fun u => shapeCast S4096x256 u shapeCasts_S1x4096x256_S4096x256) (slot_miss (Val := Elt F) (Memref.whole cc0_scratch1) (Rect.unit (s := S2x4096x256) ![1, 0, 0] S1x4096x256.size inb_S2x4096x256_S1x4096x256_1_0_0) (Rect.unit (s := S2x4096x256) ![0, 0, 0] S1x4096x256.size inb_S2x4096x256_S1x4096x256_0_0_0) (fun _ => rfl) squeezes_S1x4096x256_S4096x256 w_disj01.symm _ _)).trans ((slot_hit (Val := Elt F) (Memref.whole cc0_scratch1) (Rect.unit (s := S2x4096x256) ![1, 0, 0] S1x4096x256.size inb_S2x4096x256_S1x4096x256_1_0_0) (fun _ => rfl) squeezes_S1x4096x256_S4096x256 shapeCasts_S1x4096x256_S4096x256 _ _).trans (by rfl))
  have hw4 : runA.sl.v210 c fw f4 = wb fw 4 := by
    refine wb_cov _ fw 4 ![0, 0, 0] inb_S2x4096x256_S1x4096x256_0_0_0 _ _ ?_
    exact (congrArg (fun u => shapeCast S4096x256 u shapeCasts_S1x4096x256_S4096x256) (slot_miss (Val := Elt F) (Memref.whole cc0_scratch1) (Rect.unit (s := S2x4096x256) ![0, 0, 0] S1x4096x256.size inb_S2x4096x256_S1x4096x256_0_0_0) (Rect.unit (s := S2x4096x256) ![1, 0, 0] S1x4096x256.size inb_S2x4096x256_S1x4096x256_1_0_0) (fun _ => rfl) squeezes_S1x4096x256_S4096x256 w_disj01 _ _)).trans ((slot_hit (Val := Elt F) (Memref.whole cc0_scratch1) (Rect.unit (s := S2x4096x256) ![0, 0, 0] S1x4096x256.size inb_S2x4096x256_S1x4096x256_0_0_0) (fun _ => rfl) squeezes_S1x4096x256_S4096x256 shapeCasts_S1x4096x256_S4096x256 _ _).trans (by rfl))
  have hw5 : runA.sl.v239 c fw f4 = wb fw 5 := by
    refine wb_cov _ fw 5 ![1, 0, 0] inb_S2x4096x256_S1x4096x256_1_0_0 _ _ ?_
    exact (congrArg (fun u => shapeCast S4096x256 u shapeCasts_S1x4096x256_S4096x256) (slot_miss (Val := Elt F) (Memref.whole cc0_scratch1) (Rect.unit (s := S2x4096x256) ![1, 0, 0] S1x4096x256.size inb_S2x4096x256_S1x4096x256_1_0_0) (Rect.unit (s := S2x4096x256) ![0, 0, 0] S1x4096x256.size inb_S2x4096x256_S1x4096x256_0_0_0) (fun _ => rfl) squeezes_S1x4096x256_S4096x256 w_disj01.symm _ _)).trans ((slot_hit (Val := Elt F) (Memref.whole cc0_scratch1) (Rect.unit (s := S2x4096x256) ![1, 0, 0] S1x4096x256.size inb_S2x4096x256_S1x4096x256_1_0_0) (fun _ => rfl) squeezes_S1x4096x256_S4096x256 shapeCasts_S1x4096x256_S4096x256 _ _).trans (by rfl))
  have hw6 : runA.sl.v263 c fw f4 = wb fw 6 := by
    refine wb_cov _ fw 6 ![0, 0, 0] inb_S2x4096x256_S1x4096x256_0_0_0 _ _ ?_
    exact (congrArg (fun u => shapeCast S4096x256 u shapeCasts_S1x4096x256_S4096x256) (slot_miss (Val := Elt F) (Memref.whole cc0_scratch1) (Rect.unit (s := S2x4096x256) ![0, 0, 0] S1x4096x256.size inb_S2x4096x256_S1x4096x256_0_0_0) (Rect.unit (s := S2x4096x256) ![1, 0, 0] S1x4096x256.size inb_S2x4096x256_S1x4096x256_1_0_0) (fun _ => rfl) squeezes_S1x4096x256_S4096x256 w_disj01 _ _)).trans ((slot_hit (Val := Elt F) (Memref.whole cc0_scratch1) (Rect.unit (s := S2x4096x256) ![0, 0, 0] S1x4096x256.size inb_S2x4096x256_S1x4096x256_0_0_0) (fun _ => rfl) squeezes_S1x4096x256_S4096x256 shapeCasts_S1x4096x256_S4096x256 _ _).trans (by rfl))
  have hw7 : runA.sl.v287 c fw f4 = wb fw 7 := by
    refine wb_cov _ fw 7 ![1, 0, 0] inb_S2x4096x256_S1x4096x256_1_0_0 _ _ ?_
    exact (slot_hit (Val := Elt F) (Memref.whole cc0_scratch1) (Rect.unit (s := S2x4096x256) ![1, 0, 0] S1x4096x256.size inb_S2x4096x256_S1x4096x256_1_0_0) (fun _ => rfl) squeezes_S1x4096x256_S4096x256 shapeCasts_S1x4096x256_S4096x256 _ _).trans (by rfl)
  have hl : runA.sl.r_7 c fx fw f3 f4 = lmax fx fw := by
    unfold lmax cm
    rw [← hx, ← hw0, ← hw1, ← hw2, ← hw3, ← hw4, ← hw5, ← hw6, ← hw7]
    rfl
  have hy := y_writes (Memref.whole cc0_scratch4).view fx fw f7
    (k0_pay7 (runA.sl.v93 c fx f3) (runA.sl.v94 c fw f4)) (k0_pay11 (runA.sl.v93 c fx f3) (runA.sl.v123 c fw f4))
    (k0_pay15 (runA.sl.v93 c fx f3) (runA.sl.v152 c fw f4)) (k0_pay19 (runA.sl.v93 c fx f3) (runA.sl.v181 c fw f4))
    (k0_pay23 (runA.sl.v93 c fx f3) (runA.sl.v210 c fw f4)) (k0_pay27 (runA.sl.v93 c fx f3) (runA.sl.v239 c fw f4))
    (k0_pay31 (runA.sl.v93 c fx f3) (runA.sl.v263 c fw f4)) (k0_pay35 (runA.sl.v93 c fx f3) (runA.sl.v287 c fw f4))
    (by rw [pay7_eq, hx, hw0]; rfl) (by rw [pay11_eq, hx, hw1]; rfl) (by rw [pay15_eq, hx, hw2]; rfl) (by rw [pay19_eq, hx, hw3]; rfl)
    (by rw [pay23_eq, hx, hw4]; rfl) (by rw [pay27_eq, hx, hw5]; rfl) (by rw [pay31_eq, hx, hw6]; rfl) (by rw [pay35_eq, hx, hw7]; rfl)
  rw [wp_ret]; imodintro
  unfold postA
  isplitr
  · ipureintro; exact ⟨rfl, hl, rfl⟩
  isplitl [Ho]
  · iexists _; iexact Ho
  isplitl [Hx]
  · iexact Hx
  isplitl [Hw]
  · iexact Hw
  isplitl [H3]
  · iexists _; iexact H3
  isplitl [H4]
  · iexists _; iexact H4
  isplitl [H5]
  · iexists _; iexact H5
  isplitl [H6]
  · iexists _; iexact H6
  isplitl [H7]
  · rw [← hy]; iexact H7
  isplitl [S0]
  · iexact S0
  isplitl [S1]
  · iexact S1
  isplitl [S2]
  · iexact S2
  iexact S3

end Cert.QK

end
-- ==== Proof.Body.lean ====
/-
The whole body of the kernel: its first stage, then the exchange.
-/
module

public import proofs.«01_k».proof.Proof.Parts3
public import proofs.«01_k».proof.Proof.StageA

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Bool (Elt F) ℕ UU ℕ

variable (X : Dev nD → FVec F S1024x4096 .f32) (W : Dev nD → FVec F S4096x2048 .f32) (K : Dev nD × Fin 17 → ℕ)

/-- The wait for the last send. -/
def lastP (d0 : Dev nD) : Prog (TpuEff nD τ sig (Elt F) Λ₀ .tc) PUnit := do
  let v742 : DmaSems sig S1 := cc0_scratch12.slice (Rect.unit (s := S4) ![3] S1.size inb_S4_S1_3)
  let v743 : DmaSems sig S_ := v742.squeeze S_ squeezes_S1_S_
  let v744 : Memref sig .tc .vmem S1x1024x512 .i8 := (Memref.whole cc0_scratch5).slice (Rect.unit (s := S4x1024x512) ![3, 0, 0] S1x1024x512.size inb_S4x1024x512_S1x1024x512_3_0_0) (fun _ => rfl)
  let v745 : Memref sig .tc .vmem S1024x512 .i8 := v744.squeeze S1024x512 squeezes_S1x1024x512_S1024x512
  let v746 : Memref sig .tc .vmem S1x1024x512 .i8 := (Memref.whole cc0_scratch6).slice (Rect.unit (s := S4x1024x512) (k0_off7 d0) S1x1024x512.size (k0_off7_inb d0)) (fun _ => rfl)
  let v747 : Memref sig .tc .vmem S1024x512 .i8 := v746.squeeze S1024x512 squeezes_S1x1024x512_S1024x512
  Prog.lift (.waitDma2 v743.sem v747 v745 (((Memref.isWhole_whole cc0_scratch6).wordExact_slice rfl _ (k0_off7_wordsi8 d0)).reshape _ _) (((Memref.isWhole_whole cc0_scratch5).wordExact_slice rfl _ wordsi8_S4x1024x512_S1x1024x512_3_0_0).reshape _ _))
  pure ⟨⟩

/-- What follows the first eleven parts. -/
def progB (d0 : Dev nD) (v2 : BitVec 32) (v305 : F .f32) (v306 : Sems sig S_) (v309 v310 : BitVec 32) (v311 v312 v313 : BitVec 1) : Prog (TpuEff nD τ sig (Elt F) Λ₀ .tc) PUnit := do
  k0_part12 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 v306 v309 v310 v311 v312 v313
  let r1 ← k0_part13 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 v305 v306
  let r2 ← k0_part14 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r1.1 r1.2.1 r1.2.2
  let r3 ← k0_part15 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r2.1 r2.2.1 r2.2.2.1 r2.2.2.2
  let r4 ← k0_part16 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r3.1 r3.2.1 r3.2.2.1 r3.2.2.2
  let r5 ← k0_part17 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r4.1 r4.2.2.1 r4.2.2.2
  let r6 ← k0_part18 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r4.1 r5.1 r5.2.1 r5.2.2
  k0_part19 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r4.1 r4.2.1 r6.1 r6.2
  let v606 ← k0_part20 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r4.2.1
  let v640 ← k0_part21 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 v606
  let v679 ← k0_part22 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 v2 r4.2.1 v640
  k0_part23 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0 r4.2.1 v679
  k0_part24 (Memref.whole main_arg0) (Memref.isWhole_whole main_arg0) (Memref.whole main_arg1) (Memref.isWhole_whole main_arg1) (Memref.whole main_v1) (Memref.isWhole_whole main_v1) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (Memref.whole cc0_scratch9) (Memref.isWhole_whole cc0_scratch9) cc0_scratch10 cc0_scratch11 cc0_scratch12 cc0_scratch13 cc0_scratch14 cc0_scratch15 d0
  lastP d0

/-- The body as the pipeline calls it. -/
abbrev bodyP : Prog (TpuEff nD τ sig (Elt F) Λ₀ .tc) PUnit := cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15

theorem body_eq : bodyP (F := F) = progA (F := F) >>= fun r => progB r.1 r.2.1 r.2.2.1 r.2.2.2.1 r.2.2.2.2.1 r.2.2.2.2.2.1 r.2.2.2.2.2.2.1 r.2.2.2.2.2.2.2.1 r.2.2.2.2.2.2.2.2 := by
  unfold bodyP
  rw [cc0_body_eq_skeleton]
  unfold cc0_body_skel progA
  simp only [bind_assoc, pure_bind]
  rfl

/-- A program followed by another. -/
theorem bind_step {α β : Type} {Q : β → sProp 𝕄} (c : Dev nD) (p : Prog (TpuEff nD τ sig (Elt F) Λ₀ .tc) α) (k : α → Prog (TpuEff nD τ sig (Elt F) Λ₀ .tc) β) :
    (WP c p (fun a => WP c (k a) Q) : sProp 𝕄) ⊢ WP c (p >>= k) Q := by
  show _ ⊢ wp _ _ _ _ _
  rw [wp_bind]

theorem last_step {Q : PUnit → sProp 𝕄} (c : Dev nD) :
    (records X W K : sProp 𝕄) ⊢ iprop(owesE c 0 -∗ cred (tallyAt (kcell (c, sendK 3)) true Nq) -∗ atPos ER (kcell (c, sendK 3)) 0 ∅ 0
      -∗ ((owesE c 0 ∗ atPos ER (kcell (c, sendK 3)) 1 ∅ 0 ∗ (∃ f, sdPts (F := F) c 3 f)) -∗ Q ⟨⟩)
      -∗ WP c (lastP (F := F) c) Q) := by
  unfold lastP
  simp only [semSignalWord, semWaitWord, Prog.lift, Prog.bind_op, Prog.bind_ret, Prog.pure_eq_ret]
  iintro #HR Ho C A Hk
  iapply (send_wait X W K c 3 (by decide) _ (sem_send 3 _ rfl _) rfl) $$ HR Ho C A
  iintro H
  iapply (ret_step c _)
  iapply Hk; iexact H

/-! ## What a device holds -/

/-- The rights to the signals and to the transfers that device `c` makes. -/
def toks (c : Dev nD) : sProp 𝕄 :=
  iprop(dutyTok ER (kcell (pr c 1, 0)) 0 c ∗ dutyTok ER (kcell (pr c 2, 0)) 0 c ∗ dutyTok ER (kcell (pr c 3, 0)) 0 c ∗ dutyTok ER (kcell (c, asendK 1)) 0 c ∗ dutyTok ER (kcell (pr c 1, arecvK c)) 0 c ∗ dutyTok ER (kcell (c, asendK 2)) 0 c ∗ dutyTok ER (kcell (pr c 2, arecvK c)) 0 c ∗ dutyTok ER (kcell (c, asendK 3)) 0 c ∗ dutyTok ER (kcell (pr c 3, arecvK c)) 0 c ∗ dutyTok ER (kcell (c, sendK 1)) 0 c ∗ dutyTok ER (kcell (pr c 1, recvK c)) 0 c ∗ dutyTok ER (kcell (c, sendK 2)) 0 c ∗ dutyTok ER (kcell (pr c 2, recvK c)) 0 c ∗ dutyTok ER (kcell (c, sendK 3)) 0 c ∗ dutyTok ER (kcell (pr c 3, recvK c)) 0 c)
/-- What device `c` may wait for from the start. -/
def creds (c : Dev nD) : sProp 𝕄 :=
  iprop(cred (tallyAt (kcell (c, 0)) true 3) ∗ cred (tallyAt (kcell (c, arecvK (pr c 1))) true Na) ∗ cred (tallyAt (kcell (c, arecvK (pr c 2))) true Na) ∗ cred (tallyAt (kcell (c, arecvK (pr c 3))) true Na) ∗ cred (tallyAt (kcell (c, recvK (pr c 1))) true Nq) ∗ cred (tallyAt (kcell (c, recvK (pr c 2))) true Nq) ∗ cred (tallyAt (kcell (c, recvK (pr c 3))) true Nq))
/-- The cells of device `c` that the exchange uses, at round `r`. -/
def ats (c : Dev nD) (r : ℕ) : sProp 𝕄 :=
  iprop(atPos ER (kcell (c, 0)) r ∅ 0 ∗ atPos ER (kcell (c, arecvK (pr c 1))) r ∅ 0 ∗ atPos ER (kcell (c, arecvK (pr c 2))) r ∅ 0 ∗ atPos ER (kcell (c, arecvK (pr c 3))) r ∅ 0 ∗ atPos ER (kcell (c, recvK (pr c 1))) r ∅ 0 ∗ atPos ER (kcell (c, recvK (pr c 2))) r ∅ 0 ∗ atPos ER (kcell (c, recvK (pr c 3))) r ∅ 0 ∗ atPos ER (kcell (c, asendK 1)) r ∅ 0 ∗ atPos ER (kcell (c, asendK 2)) r ∅ 0 ∗ atPos ER (kcell (c, asendK 3)) r ∅ 0 ∗ atPos ER (kcell (c, sendK 1)) r ∅ 0 ∗ atPos ER (kcell (c, sendK 2)) r ∅ 0 ∗ atPos ER (kcell (c, sendK 3)) r ∅ 0)
/-- The counters of the local copies. -/
def copies (c : Dev nD) : sProp 𝕄 :=
  iprop(semVal ((c : Thread nD τ), SemLoc.dma ((cc0_scratch10.slice (Rect.unit (s := S4) ![0] S1.size inb_S4_S1_0)).squeeze S_ squeezes_S1_S_).sem) 0 ∗ semVal ((c : Thread nD τ), SemLoc.dma ((cc0_scratch10.slice (Rect.unit (s := S4) ![1] S1.size inb_S4_S1_1)).squeeze S_ squeezes_S1_S_).sem) 0 ∗ semVal ((c : Thread nD τ), SemLoc.dma ((cc0_scratch10.slice (Rect.unit (s := S4) ![2] S1.size inb_S4_S1_2)).squeeze S_ squeezes_S1_S_).sem) 0 ∗ semVal ((c : Thread nD τ), SemLoc.dma ((cc0_scratch10.slice (Rect.unit (s := S4) ![3] S1.size inb_S4_S1_3)).squeeze S_ squeezes_S1_S_).sem) 0)
/-- The counters of the copies of the row blocks of the result. -/
def outs (c : Dev nD) : sProp 𝕄 := iprop(semVal ((c : Thread nD τ), outS 0) 0 ∗ semVal ((c : Thread nD τ), outS 1) 0)
/-- The buffers of the kernel, whole, at whatever they hold. -/
def bufs (c : Dev nD) : sProp 𝕄 :=
  iprop((∃ f, wpts (F := F) c cc0_scratch0 f) ∗ (∃ f, wpts (F := F) c cc0_scratch1 f) ∗ (∃ f, wpts (F := F) c cc0_scratch2 f) ∗ (∃ f, wpts (F := F) c cc0_scratch3 f) ∗ (∃ f, wpts (F := F) c cc0_scratch4 f) ∗ (∃ f, wpts (F := F) c cc0_scratch5 f) ∗ (∃ f, wpts (F := F) c cc0_scratch6 f) ∗ (∃ f, wpts (F := F) c cc0_scratch7 f) ∗ (∃ f, wpts (F := F) c cc0_scratch8 f) ∗ (∃ f, wpts (F := F) c cc0_scratch9 f))

/-- What follows the first stage. -/
theorem runB {Q : PUnit → sProp 𝕄} (c : Dev nD) (v2 : BitVec 32) (v305 : F .f32) (h305 : v305 = lmax (X c) (W c)) (v306 : Sems sig S_) (h306 : v306 = SemArray.scalar (sig.barrier 0 rfl)) (v309 v310 : BitVec 32) (v311 v312 v313 : BitVec 1)
    (f2 : FVec F S4096x512 .f32) (g5 g6 : IVec S4x1024x512 8) (g7 : FVec F S2x1024x512 .f32) (g8 : FVec F S8x128 .f32) (g9 : FVec F S4x8x128 .f32) :
    (records X W K : sProp 𝕄) ⊢ iprop(owesE c (O₀ c) -∗ wpts c main_v1 f2 -∗ wpts c cc0_scratch4 (yAll (X c) (W c)) -∗ wpts c cc0_scratch5 g5 -∗ wpts c cc0_scratch6 g6
      -∗ wpts c cc0_scratch7 g7 -∗ wpts c cc0_scratch8 g8 -∗ wpts c cc0_scratch9 g9 -∗ outs c -∗ toks c -∗ creds c -∗ ats c 0
      -∗ ((owesE c 0 ∗ wpts c main_v1 (outAll X W c) ∗ (∃ f, wpts (F := F) c cc0_scratch4 f) ∗ (∃ f, wpts (F := F) c cc0_scratch5 f) ∗ (∃ f, wpts (F := F) c cc0_scratch6 f)
          ∗ (∃ f, wpts (F := F) c cc0_scratch7 f) ∗ (∃ f, wpts (F := F) c cc0_scratch8 f) ∗ (∃ f, wpts (F := F) c cc0_scratch9 f) ∗ outs c ∗ ats c 1) -∗ Q ⟨⟩)
      -∗ WP c (progB (F := F) c v2 v305 v306 v309 v310 v311 v312 v313) Q) := by
  unfold outs toks creds ats progB
  iintro #HR Ho HV Hy H5 H6 H7 H8 H9 ⟨U0, U1⟩ ⟨B1, B2, B3, TA1, TB1, TA2, TB2, TA3, TB3, TS1, TR1, TS2, TR2, TS3, TR3⟩ ⟨CB, CA1, CA2, CA3, CR1, CR2, CR3⟩ ⟨AB, AA1, AA2, AA3, AR1, AR2, AR3, AS1, AS2, AS3, AT1, AT2, AT3⟩ Hk
  ihave H9 := (Entails.of_eq ((am_split c g9).trans (around c fun s => amPts c s g9))) $$ H9
  icases H9 with ⟨M0, M1, M2, M3⟩
  ihave H6 := (Entails.of_eq ((rv_split c g6).trans (around c fun s => rvPts c s g6))) $$ H6
  icases H6 with ⟨R0, R1, R2, R3⟩
  ihave H5 := (Entails.of_eq ((sd_split c g5).trans (four fun s => sdPts c s g5))) $$ H5
  icases H5 with ⟨D0, D1, D2, D3⟩
  ihave H7 := (Entails.of_eq ((dq_split c g7).trans (two fun s => dqPts c s g7))) $$ H7
  icases H7 with ⟨E0, E1⟩
  ihave HV := (Entails.of_eq ((or_split c f2).trans (around c fun s => orPts c s f2))) $$ HV
  icases HV with ⟨V0, V1, V2, V3⟩
  ihave P1 : barPay (F := F) c (pr c 1) $$ [M1 R1]
  · unfold barPay
    isplitl [M1]
    · iexists g9; iexact M1
    · iexists g6; iexact R1
  ihave P2 : barPay (F := F) c (pr c 2) $$ [M2 R2]
  · unfold barPay
    isplitl [M2]
    · iexists g9; iexact M2
    · iexists g6; iexact R2
  ihave P3 : barPay (F := F) c (pr c 3) $$ [M3 R3]
  · unfold barPay
    isplitl [M3]
    · iexists g9; iexact M3
    · iexists g6; iexact R3
  iapply (bind_step c _ _)
  iapply (part12 X W K c v2 v306 h306 v309 v310 v311 v312 v313) $$ HR Ho B1 B2 B3 P1 P2 P3
  iintro Ho
  iapply (bind_step c _ _)
  iapply (part13 X W K c v2 v305 h305 v306 h306 g8 g9) $$ HR Ho CB AB H8 M0 TA1 TB1
  iintro %r1 ⟨Ho, AB, M0, CS1, S2, S3, ⟨%e1, Z1⟩, P2, P3⟩
  iapply (bind_step c _ _)
  iapply (part14 X W K c v2 _ _ _) $$ HR Ho S2 S3 P2 P3 TA2 TB2 TA3 TB3
  iintro %r2 ⟨Ho, CS2, CS3, ⟨%e2, Z2⟩, ⟨%e3, Z3⟩⟩
  iapply (bind_step c _ _)
  iapply (part15 X W K c v2 _ _ _ _) $$ HR Ho CA1 AA1 CA2 AA2
  iintro %r3 ⟨Ho, AA1, AA2, M1, M2⟩
  iapply (bind_step c _ _)
  iapply (part16 X W K c v2 _ _ _ _) $$ HR Ho CA3 AA3 M0 M1 M2 Hy
  iintro %w4 ⟨Ho, AA3, H9, Hy⟩
  iapply (bind_step c _ _)
  iapply (part17 X W K c v2 _ rfl _ g5 e1) $$ HR Ho Hy D1 Z1 TS1 TR1
  iintro %w5 ⟨Ho, Hy, CT1⟩
  iapply (bind_step c _ _)
  iapply (part18 X W K c v2 _ rfl _ g5 e2) $$ HR Ho Hy D2 Z2 TS2 TR2
  iintro %w6 ⟨Ho, Hy, CT2⟩
  iapply (bind_step c _ _)
  iapply (part19 X W K c v2 _ _ rfl rfl _ g5 e3 g7) $$ HR Ho Hy D3 Z3 TS3 TR3 E0
  iintro ⟨Ho, Hy, CT3, E0⟩
  iapply (bind_step c _ _)
  iapply (part20 X W K c v2 _ rfl f2 g7) $$ HR Ho E0 V0 U0 CR1 AR1 E1
  iintro %w7 ⟨Ho, F0, AR1, R1, E1⟩
  iapply (bind_step c _ _)
  iapply (part21 X W K c v2 _ f2) $$ HR Ho E1 V1 U1 CR2 AR2 F0
  iintro %w8 ⟨Ho, F1, AR2, R2, V0, E0, U0⟩
  iapply (bind_step c _ _)
  iapply (part22 X W K c v2 _ rfl _ f2) $$ HR R2 E0 V2 U0
  iintro %w9 ⟨R2, F0⟩
  iapply (bind_step c _ _)
  iapply (part23 X W K c _ rfl _ f2) $$ HR Ho CR3 AR3 F1 F0 V3
  iintro ⟨Ho, F1, AR3, R3, V1, V2, E0, U0⟩
  iapply (bind_step c _ _)
  iapply (part24 X W K c) $$ HR Ho F1 CS1 CS2 CS3 CT1 CT2 AS1 AS2 AS3 AT1 AT2
  iintro ⟨Ho, V3, E1, U1, AS1, AS2, AS3, AT1, AT2, H8, D1, D2⟩
  iapply (last_step X W K c) $$ HR Ho CT3 AT3
  iintro ⟨Ho, AT3, D3⟩
  iapply Hk
  isplitl [Ho]; · iexact Ho
  isplitl [V0 V1 V2 V3]
  · iapply (Entails.of_eq ((or_split c (outAll X W c)).trans (around c fun s => orPts c s (outAll X W c))).symm)
    isplitl [V0]; · iexact V0
    isplitl [V1]; · iexact V1
    isplitl [V2]; · iexact V2
    iexact V3
  isplitl [Hy]; · iexists (yAll (X c) (W c)); iexact Hy
  isplitl [D0 D1 D2 D3]
  · iapply (sd_join c g5)
    iapply (Entails.of_eq (four fun s => iprop(∃ f, sdPts (F := F) c s f)).symm)
    isplitl [D0]; · iexists g5; iexact D0
    isplitl [D1]; · iexact D1
    isplitl [D2]; · iexact D2
    iexact D3
  isplitl [R0 R1 R2 R3]
  · iapply (rv_join c g6)
    iapply (Entails.of_eq (around c fun s => iprop(∃ f, rvPts (F := F) c s f)).symm)
    isplitl [R0]; · iexists g6; iexact R0
    isplitl [R1]; · iexists (rAll X W c); iexact R1
    isplitl [R2]; · iexists (rAll X W c); iexact R2
    iexists (rAll X W c); iexact R3
  isplitl [E0 E1]
  · iapply (dq_join c g7)
    iapply (Entails.of_eq (two fun s => iprop(∃ f, dqPts (F := F) c s f)).symm)
    isplitl [E0]; · iexists _; iexact E0
    iexists _; iexact E1
  isplitl [H8]; · iexists _; iexact H8
  isplitl [H9]; · iexists _; iexact H9
  isplitl [U0 U1]
  · isplitl [U0] <;> iassumption
  isplitl [AB]; · iexact AB
  isplitl [AA1]; · iexact AA1
  isplitl [AA2]; · iexact AA2
  isplitl [AA3]; · iexact AA3
  isplitl [AR1]; · iexact AR1
  isplitl [AR2]; · iexact AR2
  isplitl [AR3]; · iexact AR3
  isplitl [AS1]; · iexact AS1
  isplitl [AS2]; · iexact AS2
  isplitl [AS3]; · iexact AS3
  isplitl [AT1]; · iexact AT1
  isplitl [AT2]; · iexact AT2
  iexact AT3

/-- The whole body on device `c`. -/
theorem runBody {Q : PUnit → sProp 𝕄} (c : Dev nD) (f2 : FVec F S4096x512 .f32) :
    (records X W K : sProp 𝕄) ⊢ iprop(owesE c (O₀ c) -∗ wpts c main_arg0 (X c) -∗ wpts c main_arg1 (W c) -∗ wpts c main_v1 f2 -∗ bufs c -∗ copies c -∗ outs c -∗ toks c -∗ creds c -∗ ats c 0
      -∗ ((owesE c 0 ∗ wpts c main_arg0 (X c) ∗ wpts c main_arg1 (W c) ∗ wpts c main_v1 (outAll X W c) ∗ bufs c ∗ copies c ∗ outs c ∗ ats c 1) -∗ Q ⟨⟩)
      -∗ WP c (bodyP (F := F)) Q) := by
  rw [body_eq]
  unfold bufs copies
  iintro #HR Ho Hx Hw HV ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩⟩ ⟨S0, S1, S2, S3⟩ Hu Ht Hc Ha Hk
  ihave Ho := (Entails.of_eq (show (owesE c (O₀ c) : sProp 𝕄) = iprop(∃ V : Waits sig Bool, owes (c : Thread nD τ) (O₀ c) V) from rfl)) $$ Ho
  icases Ho with ⟨%V, Ho⟩
  ihave #Hl := (levs_at X W K) $$ HR
  ihave #Hm := (mayWaits_local (F := F) c (O₀ c) (above_O₀ c)) $$ Hl
  iapply (bind_step c _ _)
  ihave HA := (runA c (O₀ c) V (X c) (W c) g0 g1 g2 g3 g4) $$ [Ho Hx Hw H0 H1 H2 H3 H4 S0 S1 S2 S3]
  · isplitr; · iexact Hm
    isplitl [Ho]; · iexact Ho
    isplitl [Hx]; · iexact Hx
    isplitl [Hw]; · iexact Hw
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iexact S3
  iapply (wp_wand frame (wpE (defs₀ (F := F)) 𝒱₀ (c : Thread nD τ) none) Set.univ) $$ HA
  iintro %r HA
  unfold postA
  icases HA with ⟨%hr, ⟨%V', Ho⟩, Hx, Hw, H0, H1, H2, H3, H4, S0, S1, S2, S3⟩
  obtain ⟨h1, h2, h3⟩ := hr
  obtain ⟨d0, v2, v305, v306, v309, v310, v311, v312, v313⟩ := r
  dsimp only at h1 h2 h3
  subst h1
  ihave Ho := (owesE_intro _ _ V') $$ Ho
  iapply (runB X W K _ v2 v305 h2 v306 h3 v309 v310 v311 v312 v313 f2 g5 g6 g7 g8 g9) $$ HR Ho HV H4 H5 H6 H7 H8 H9 Hu Ht Hc Ha
  iintro ⟨Ho, HV, H4, H5, H6, H7, H8, H9, Hu, Ha⟩
  iapply Hk
  isplitl [Ho]; · iexact Ho
  isplitl [Hx]; · iexact Hx
  isplitl [Hw]; · iexact Hw
  isplitl [HV]; · iexact HV
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [S0 S1 S2 S3]
  · isplitl [S0]; · iexact S0
    isplitl [S1]; · iexact S1
    isplitl [S2]; · iexact S2
    iexact S3
  isplitl [Hu]; · iexact Hu
  iexact Ha

end Cert.QK

end
-- ==== Proof.Launch.lean ====
/-
The launch: the cells of the exchange allocated for all devices at once, the body run on each device, the cells closed.
-/
module

public import proofs.«01_k».proof.Proof.Body
public import Idealize.ShloMosaic.Lib.Pipeline.CollectiveSegs
public import Idealize.ShloMosaic.Lib.Quiescent

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Bool (Elt F) ℕ UU ℕ

/-! ## The semaphores -/

/-- The semaphores of the launch: every DMA semaphore. -/
abbrev osem : Fin 22 → SemLoc sig := fun k => .dma k

theorem ownSemFacts : Pipeline.OwnSemFacts cfg0.spec osem := by decide

/-- The cells of a device that the exchange does not use, at whatever `Φ` says. -/
def idle (c : Dev nD) (Φ : Fin 17 → sProp 𝕄) : sProp 𝕄 :=
  iprop(Φ (sendK 0) ∗ Φ (asendK 0) ∗ Φ (recvK c) ∗ Φ (arecvK c))
/-- The cells of a device that it uses. -/
def busy (c : Dev nD) (Φ : Fin 17 → sProp 𝕄) : sProp 𝕄 :=
  iprop(Φ 0 ∗ Φ (arecvK (pr c 1)) ∗ Φ (arecvK (pr c 2)) ∗ Φ (arecvK (pr c 3)) ∗ Φ (recvK (pr c 1)) ∗ Φ (recvK (pr c 2)) ∗ Φ (recvK (pr c 3)) ∗ Φ (asendK 1) ∗ Φ (asendK 2) ∗ Φ (asendK 3) ∗ Φ (sendK 1) ∗ Φ (sendK 2) ∗ Φ (sendK 3))

/-- A device's cells: the ones it uses, and the others. -/
theorem cells17 (c : Dev nD) (Φ : Fin 17 → sProp 𝕄) : bigSep Finset.univ Φ = iprop(Φ 0 ∗ Φ (arecvK (pr c 1)) ∗ Φ (arecvK (pr c 2)) ∗ Φ (arecvK (pr c 3)) ∗ Φ (recvK (pr c 1)) ∗ Φ (recvK (pr c 2)) ∗ Φ (recvK (pr c 3)) ∗ Φ (asendK 1) ∗ Φ (asendK 2) ∗ Φ (asendK 3) ∗ Φ (sendK 1) ∗ Φ (sendK 2) ∗ Φ (sendK 3) ∗ Φ (sendK 0) ∗ Φ (asendK 0) ∗ Φ (recvK c) ∗ Φ (arecvK c)) := by
  rw [bigSep_univ_eq_bigSepL [0, arecvK (pr c 1), arecvK (pr c 2), arecvK (pr c 3), recvK (pr c 1), recvK (pr c 2), recvK (pr c 3), asendK 1, asendK 2, asendK 3, sendK 1, sendK 2, sendK 3, sendK 0, asendK 0, recvK c, arecvK c] (by revert c; decide) (by revert c; decide) Φ]; rfl

theorem cells17' (c : Dev nD) (Φ : Fin 17 → sProp 𝕄) : bigSep Finset.univ Φ ⊣⊢ iprop(busy c Φ ∗ idle c Φ) := by
  rw [cells17 c Φ]
  unfold busy idle
  constructor
  · iintro ⟨H0, H1, H2, H3, H4, H5, H6, H7, H8, H9, H10, H11, H12, H13, H14, H15, H16⟩
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    isplitl [H14]; · iexact H14
    isplitl [H15]; · iexact H15
    iexact H16
  · iintro ⟨⟨H0, H1, H2, H3, H4, H5, H6, H7, H8, H9, H10, H11, H12⟩, H13, H14, H15, H16⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The counters at zero: the local copies', and one for each cell of the exchange. -/
theorem own_sems (c : Dev nD) : (Pipeline.ownSems0 (Ix := Bool) (Name := ℕ) (U := UU) (Lvl := ℕ) (Val := Elt F) (τ := τ) osem c : sProp 𝕄)
    = iprop(semVal ((c : Thread nD τ), SemLoc.dma ((cc0_scratch10.slice (Rect.unit (s := S4) ![0] S1.size inb_S4_S1_0)).squeeze S_ squeezes_S1_S_).sem) 0 ∗ semVal ((c : Thread nD τ), SemLoc.dma ((cc0_scratch10.slice (Rect.unit (s := S4) ![1] S1.size inb_S4_S1_1)).squeeze S_ squeezes_S1_S_).sem) 0 ∗ semVal ((c : Thread nD τ), SemLoc.dma ((cc0_scratch10.slice (Rect.unit (s := S4) ![2] S1.size inb_S4_S1_2)).squeeze S_ squeezes_S1_S_).sem) 0 ∗ semVal ((c : Thread nD τ), SemLoc.dma ((cc0_scratch10.slice (Rect.unit (s := S4) ![3] S1.size inb_S4_S1_3)).squeeze S_ squeezes_S1_S_).sem) 0 ∗ semVal ((c : Thread nD τ), outS 0) 0 ∗ semVal ((c : Thread nD τ), outS 1) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0) := by
  rw [Pipeline.ownSems0_eq_of_list c osem [0, 1, 2, 3, 4, 5, 6, 7, 8, 9, 10, 11, 12, 13, 14, 15, 16, 17, 18, 19, 20, 21] (by decide) (by decide)]; rfl

theorem unscoped_sems (c : Dev nD) : (unscopedSems0 c : sProp 𝕄) = semVal (kcell (c, 0)) 0 := by
  unfold unscopedSems0; rw [bigSep_eq_bigSepL_of_eq [SemLoc.reg barS] (by decide) (by decide)]; rfl

theorem all17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem sems_in (c : Dev nD) :
    iprop(Pipeline.ownSems0 (Ix := Bool) (Name := ℕ) (U := UU) (Lvl := ℕ) (Val := Elt F) (τ := τ) osem c ∗ unscopedSems0 c)
      ⊢ (iprop(copies c ∗ outs c ∗ bigSep Finset.univ fun k : Fin 17 => semVal (kcell (c, k)) 0) : sProp 𝕄) := by
  rw [own_sems, unscoped_sems, all17]
  unfold copies outs
  iintro ⟨⟨S0, S1, S2, S3, S4, S5, S6, S7, S8, S9, S10, S11, S12, S13, S14, S15, S16, S17, S18, S19, S20, S21⟩, B⟩
  isplitl [S0 S1 S2 S3]
  · isplitl [S0]; · iexact S0
    isplitl [S1]; · iexact S1
    isplitl [S2]; · iexact S2
    iexact S3
  isplitl [S4 S5]
  · isplitl [S4]; · iexact S4
    iexact S5
  isplitl [B]; · iexact B
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

theorem sems_out (c : Dev nD) :
    iprop(copies c ∗ outs c ∗ bigSep Finset.univ fun k : Fin 17 => semVal (kcell (c, k)) 0)
      ⊢ (iprop(unscopedSems0 c ∗ Pipeline.ownSems0 (Ix := Bool) (Name := ℕ) (U := UU) (Lvl := ℕ) (Val := Elt F) (τ := τ) osem c) : sProp 𝕄) := by
  rw [own_sems, unscoped_sems, all17]
  unfold copies outs
  iintro ⟨⟨S0, S1, S2, S3⟩, ⟨S4, S5⟩, B, S6, S7, S8, S9, S10, S11, S12, S13, S14, S15, S16, S17, S18, S19, S20, S21⟩
  isplitl [B]; · iexact B
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

/-! ## The launch element -/

variable (X : Dev nD → FVec F S1024x4096 .f32) (W : Dev nD → FVec F S4096x2048 .f32)

def ringCells : Finset (GSem nD τ sig) := Finset.univ.map ⟨kcell, kcell_injective⟩

/-- The cells that a device pays, in the order in which `toks` lists them. -/
def paid (c : Dev nD) (j : Fin 15) : Dev nD × Fin 17 := (![(pr c 1, 0), (pr c 2, 0), (pr c 3, 0), (c, asendK 1), (pr c 1, arecvK c), (c, asendK 2), (pr c 2, arecvK c), (c, asendK 3), (pr c 3, arecvK c), (c, sendK 1), (pr c 1, recvK c), (c, sendK 2), (pr c 2, recvK c), (c, sendK 3), (pr c 3, recvK c)] : Fin 15 → Dev nD × Fin 17) j
theorem paid_injective : ∀ (c : Dev nD) (j j' : Fin 15), paid c j = paid c j' → j = j' := by decide
abbrev tokOf (cj : Dev nD × Fin 15) : GSem nD τ sig × ℕ × Dev nD := (kcell (paid cj.1 cj.2), 0, cj.1)
theorem tokOf_injective : Function.Injective tokOf := by
  rintro ⟨c, j⟩ ⟨c', j'⟩ h
  have h1 : c = c' := congrArg (fun x : GSem nD τ sig × ℕ × Dev nD => x.2.2) h
  subst h1
  have h2 : j = j' := paid_injective c j j' (kcell_injective (congrArg Prod.fst h))
  rw [h2]
def ringToks : Finset (GSem nD τ sig × ℕ × Dev nD) := Finset.univ.map ⟨tokOf, tokOf_injective⟩

def u₀ : UU := (initOf (Pipeline.cells cfgs cellOf_inj) (Pipeline.launchToks cfgs cellOf_inj), (initOf ringCells ringToks, 1))

/-- What the launch element deals device `c`. -/
def G (c : Dev nD) : sProp 𝕄 :=
  iprop((bigSep Finset.univ fun k : Fin 17 => roundState ER (Rd X W) (kcell (c, k)) 0)
    ∗ (bigSep Finset.univ fun k : Fin 17 => iprop(atPos ER (kcell (c, k)) 0 ∅ 0 ∗ reached ER (kcell (c, k)) 0)) ∗ toks c)

theorem toks_eq (c : Dev nD) : (bigSep Finset.univ fun j : Fin 15 => (dutyTok ER (kcell (paid c j)) 0 c : sProp 𝕄)) = toks c := by
  rw [bigSep_univ_eq_bigSepL [0, 1, 2, 3, 4, 5, 6, 7, 8, 9, 10, 11, 12, 13, 14] (by decide) (by decide)]; rfl

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells allocated -/

/-- What stays with a device from the allocation besides its positions. -/
def rest (c : Dev nD) : sProp 𝕄 := iprop(toks c ∗ copies c ∗ outs c)

theorem core_alloc (c : Dev nD) :
    iprop(Pipeline.ownSems0 (Ix := Bool) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ rest c) := by
  unfold G rest
  iintro ⟨Hos, Hus, Hst, Hat, Htok⟩
  ihave Hv := (sems_in (F := F) c) $$ [Hos Hus]
  · isplitl [Hos] <;> iassumption
  icases Hv with ⟨Hc, Ho, Hv⟩
  imod (show iprop((bigSep Finset.univ fun k : Fin 17 => semVal (kcell (c, k)) 0) ∗ bigSep Finset.univ fun k : Fin 17 => roundState ER (Rd X W) (kcell (c, k)) 0)
      ⊢ (|={Set.univ}=> bigSep Finset.univ fun k => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hc]; · iexact Hc
  iexact Ho

/-- The records before the levels are known. -/
def recs (K : Dev nD × Fin 17 → ℕ) : sProp 𝕄 :=
  iprop((bigSep (Finset.univ : Finset (Dev nD × Fin 17)) fun ck => cellInv ER (Rd X W) (K ck) (kcell ck))
    ∗ (bigSep (Finset.univ : Finset (Dev nD × Fin 17)) fun ck => reached ER (kcell ck) 0))

instance recs_persistent (K : Dev nD × Fin 17 → ℕ) : Persistent (recs X W K : sProp 𝕄) := by
  unfold recs; infer_instance

/-- A device's share of what the allocation made. -/
def linear (c : Dev nD) : sProp 𝕄 := iprop((bigSep Finset.univ fun k : Fin 17 => atPos ER (kcell (c, k)) 0 ∅ 0) ∗ rest c)
def G' (c : Dev nD) : sProp 𝕄 := iprop(∃ K, recs X W K ∗ linear c)

theorem ghost_intro (K : Dev nD × Fin 17 → ℕ) (c : Dev nD) : iprop(recs X W K ∗ linear c) ⊢ G' X W c := by
  unfold G'
  iintro H
  iexists K
  iexact H

theorem regroup :
    (bigSep Finset.univ fun c : Dev nD => iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ rest c) : sProp 𝕄)
      ⊢ bigSep Finset.univ (G' X W) := by
  rw [bigSep_sep', bigSep_sep', ← bigSep_univ_prod (fun ck : Dev nD × Fin 17 => iprop(∃ κ : ℕ, cellInv ER (Rd X W) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Hrest⟩
  ihave HK := (BI.bigSep_exists_pi Finset.univ (fun (ck : Dev nD × Fin 17) (κ : ℕ) => (cellInv ER (Rd X W) κ (kcell ck) : sProp 𝕄))) $$ HI
  icases HK with ⟨%K, #HI⟩
  iapply (BI.bigSep_with_persistent (R := recs X W K) (Φ := fun c => linear c) fun c _ => ghost_intro X W K c)
  isplitr
  · unfold recs; isplitl; · iexact HI
    iexact HR
  · unfold linear
    iapply (Entails.of_eq (bigSep_sep' Finset.univ (fun c : Dev nD => bigSep Finset.univ fun k : Fin 17 => (atPos ER (kcell (c, k)) 0 ∅ 0 : sProp 𝕄)) (fun c => rest c)).symm)
    isplitl [Hat]; · iexact Hat
    iexact Hrest

theorem glob : (bigSep Finset.univ fun c => iprop(Pipeline.ownSems0 (Ix := Bool) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## What each device may wait for -/

/-- When every device `d` owes `n` at the device `e` places on, at a cell it chooses, each device may wait for what the
    one that reaches it owes. -/
theorem cred_of (c s e : Dev nD) (k : Dev nD → Fin 17) (n : ℕ) (hs : pr s e = c) :
    (Pipeline.launchCred (fun d => tallyAt (kcell (pr d e, k d)) true n) c : sProp 𝕄) ⊢ cred (tallyAt (kcell (c, k s)) true n) := by
  refine (Pipeline.launchCred_elim _ c (csem (k s))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ s →
      tallyOn (nD := nD) (sig := sig) (kcell (pr d e, k d)) (Finsupp.single true n) ((c : Thread nD τ), csem (k s)) = 0 := fun d _ hd => by
    unfold tallyOn
    refine Pi.single_eq_of_ne (fun h => hd ?_) _
    have h3 : c = pr d e := congrArg (fun g : GSem nD τ sig => g.1.1) h
    have h4 : ∀ d s e : Dev nD, pr s e = pr d e → d = s := by decide
    exact h4 d s e (hs.trans h3)
  rw [Finset.sum_eq_single s h0 (fun h => absurd (Finset.mem_univ _) h)]
  unfold tallyOn
  subst hs
  exact Pi.single_eq_same _ _

theorem creds_intro (c : Dev nD) : (Pipeline.launchCred O₀ c : sProp 𝕄) ⊢ creds c := by
  have hp1 : pr (pr c 3) 1 = c := by revert c; decide
  have hp2 : pr (pr c 2) 2 = c := by revert c; decide
  have hp3 : pr (pr c 1) 3 = c := by revert c; decide
  have e : (Pipeline.launchCred O₀ c : sProp 𝕄) = iprop((((((((Pipeline.launchCred (fun d => oq d 3) c ∗ Pipeline.launchCred (fun d => oq d 2) c) ∗ Pipeline.launchCred (fun d => oq d 1) c)
      ∗ Pipeline.launchCred (fun d => oa d 3) c) ∗ Pipeline.launchCred (fun d => oa d 2) c) ∗ Pipeline.launchCred (fun d => oa d 1) c)
      ∗ Pipeline.launchCred (fun d => ob d 3) c) ∗ Pipeline.launchCred (fun d => ob d 2) c) ∗ Pipeline.launchCred (fun d => ob d 1) c) := by
    rw [← Pipeline.launchCred_add, ← Pipeline.launchCred_add, ← Pipeline.launchCred_add, ← Pipeline.launchCred_add, ← Pipeline.launchCred_add,
      ← Pipeline.launchCred_add, ← Pipeline.launchCred_add, ← Pipeline.launchCred_add]
    rfl
  rw [e]
  iintro ⟨⟨⟨⟨⟨⟨⟨⟨Q3, Q2⟩, Q1⟩, A3⟩, A2⟩, A1⟩, B3⟩, B2⟩, B1⟩
  ihave B1 := (cred_of (F := F) c (pr c 3) 1 (fun _ => 0) 1 hp1) $$ B1
  ihave B2 := (cred_of (F := F) c (pr c 2) 2 (fun _ => 0) 1 hp2) $$ B2
  ihave B3 := (cred_of (F := F) c (pr c 1) 3 (fun _ => 0) 1 hp3) $$ B3
  ihave A1 := (cred_of (F := F) c (pr c 3) 1 (fun d => arecvK d) Na hp1) $$ A1
  ihave A2 := (cred_of (F := F) c (pr c 2) 2 (fun d => arecvK d) Na hp2) $$ A2
  ihave A3 := (cred_of (F := F) c (pr c 1) 3 (fun d => arecvK d) Na hp3) $$ A3
  ihave Q1 := (cred_of (F := F) c (pr c 3) 1 (fun d => recvK d) Nq hp1) $$ Q1
  ihave Q2 := (cred_of (F := F) c (pr c 2) 2 (fun d => recvK d) Nq hp2) $$ Q2
  ihave Q3 := (cred_of (F := F) c (pr c 1) 3 (fun d => recvK d) Nq hp3) $$ Q3
  unfold creds
  isplitl [B1 B2 B3]
  · iapply (Entails.of_eq (congrArg cred (show (tallyAt (kcell (c, 0)) true 1 + (tallyAt (kcell (c, 0)) true 1 + tallyAt (kcell (c, 0)) true 1) : CellTallies nD τ sig Bool) = tallyAt (kcell (c, 0)) true 3 by rw [tallyAt_add, tallyAt_add])))
    iapply (cred_add _ _).2
    isplitl [B1]; · iexact B1
    iapply (cred_add _ _).2
    isplitl [B2]; · iexact B2
    iexact B3
  isplitl [A3]; · iexact A3
  isplitl [A2]; · iexact A2
  isplitl [A1]; · iexact A1
  isplitl [Q3]; · iexact Q3
  isplitl [Q2]; · iexact Q2
  iexact Q1

/-! ## The cells closed -/

/-- A cell that no later round uses is closed with its counter at zero. -/
theorem close_at (K : Dev nD × Fin 17 → ℕ) (c : Dev nD) (k : Fin 17) (R : ℕ) (hR : ∀ r, R ≤ r → (Rd X W).duties (kcell (c, k)) r = ∅) :
    (records X W K : sProp 𝕄) ⊢ iprop(atPos ER (kcell (c, k)) R ∅ 0 -∗ |={Set.univ}=> semVal (kcell (c, k)) 0) := by
  iintro #HR Ha
  ihave HI := (inv_at X W K (c, k)) $$ HR
  iapply (Rounds.cell_close ER (Rd X W) (Set.mem_univ (K (c, k))) (fun h => h) (R := R) hR)
  isplitl [HI] <;> iassumption

theorem close_all (K : Dev nD × Fin 17 → ℕ) (c : Dev nD) :
    (records X W K : sProp 𝕄) ⊢ iprop(ats c 1 -∗ idle c (fun k => atPos ER (kcell (c, k)) 0 ∅ 0)
      -∗ |={Set.univ}=> bigSep Finset.univ fun k : Fin 17 => semVal (kcell (c, k)) 0) := by
  unfold ats idle
  iintro #HR ⟨H0, H1, H2, H3, H4, H5, H6, H7, H8, H9, H10, H11, H12⟩ ⟨H13, H14, H15, H16⟩
  imod (close_at X W K c 0 1 (duties_later X W _)) $$ HR H0 with H0
  imod (close_at X W K c (arecvK (pr c 1)) 1 (duties_later X W _)) $$ HR H1 with H1
  imod (close_at X W K c (arecvK (pr c 2)) 1 (duties_later X W _)) $$ HR H2 with H2
  imod (close_at X W K c (arecvK (pr c 3)) 1 (duties_later X W _)) $$ HR H3 with H3
  imod (close_at X W K c (recvK (pr c 1)) 1 (duties_later X W _)) $$ HR H4 with H4
  imod (close_at X W K c (recvK (pr c 2)) 1 (duties_later X W _)) $$ HR H5 with H5
  imod (close_at X W K c (recvK (pr c 3)) 1 (duties_later X W _)) $$ HR H6 with H6
  imod (close_at X W K c (asendK 1) 1 (duties_later X W _)) $$ HR H7 with H7
  imod (close_at X W K c (asendK 2) 1 (duties_later X W _)) $$ HR H8 with H8
  imod (close_at X W K c (asendK 3) 1 (duties_later X W _)) $$ HR H9 with H9
  imod (close_at X W K c (sendK 1) 1 (duties_later X W _)) $$ HR H10 with H10
  imod (close_at X W K c (sendK 2) 1 (duties_later X W _)) $$ HR H11 with H11
  imod (close_at X W K c (sendK 3) 1 (duties_later X W _)) $$ HR H12 with H12
  imod (close_at X W K c (sendK 0) 0 (duties_none X W c _ (by revert c; decide))) $$ HR H13 with H13
  imod (close_at X W K c (asendK 0) 0 (duties_none X W c _ (by revert c; decide))) $$ HR H14 with H14
  imod (close_at X W K c (recvK c) 0 (duties_none X W c _ (by revert c; decide))) $$ HR H15 with H15
  imod (close_at X W K c (arecvK c) 0 (duties_none X W c _ (by revert c; decide))) $$ HR H16 with H16
  imodintro
  iapply (Entails.of_eq (cells17 c (fun k => (semVal (kcell (c, k)) 0 : sProp 𝕄))).symm)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.QK

end
-- ==== Proof.Run.lean ====
/-
The run of the program on the four devices, at any float values.
-/
module

public import proofs.«01_k».proof.Proof.Launch

@[expose] public section

set_option maxRecDepth 16384

noncomputable section

namespace Cert.QK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Bool (Elt F) ℕ UU ℕ

variable (m : (ℓ : Loc nD τ sig) → Buf (Elt F) ℓ) (ρ : Dev nD → PrngReg)

/-- The rows of `x` that device `c` holds, and its copy of `w`. -/
abbrev X₀ (c : Dev nD) : FVec F S1024x4096 .f32 := m ((c : Thread nD τ).loc main_arg0)
abbrev W₀ (c : Dev nD) : FVec F S4096x2048 .f32 := m ((c : Thread nD τ).loc main_arg1)

/-! ## What a device holds before and after the body -/

/-- What a device starts with besides the buffers of the kernel. -/
def start (c : Dev nD) : sProp 𝕄 :=
  iprop((∃ K, records (X₀ m) (W₀ m) K) ∗ linear c ∗ creds c ∗ wpts c main_arg0 (X₀ m c) ∗ wpts c main_arg1 (W₀ m c) ∗ (∃ f : FVec F S4096x512 .f32, wpts c main_v1 f))
/-- What it ends with. -/
def final (c : Dev nD) : sProp 𝕄 :=
  iprop(wpts c main_arg0 (X₀ m c) ∗ wpts c main_arg1 (W₀ m c) ∗ wpts c main_v1 (outAll (X₀ m) (W₀ m) c))

def Φ₀ (c : Dev nD) : sProp 𝕄 := iprop(start m c ∗ bufs c)
def Φ₁ (c : Dev nD) : sProp 𝕄 :=
  iprop(final m c ∗ bufs c ∗ copies c ∗ outs c ∗ bigSep Finset.univ fun k : Fin 17 => semVal (kcell (c, k)) 0)

/-- The kernel has no windows. -/
theorem no_windows (w : Fin cfg0.W) : False := (show Fin 0 from w).elim0

def dats (_ : Fin 1) (c : Dev nD) : Dat τ (Elt F) Bool ℕ UU ℕ cfg0 c where
  A w := (no_windows w).elim
  after w _ := (no_windows w).elim
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(emp) := by
  have h : (Finset.univ : Finset (Fin cfg0.W)) = ∅ := Finset.eq_empty_of_forall_notMem fun w _ => no_windows w
  rw [h, BI.bigSep_empty]; rfl

/-- The library's body obligation. -/
theorem body_obligation (c : Dev nD) : BodyObligation (dats (F := F) m 0 c) (defs₀ (F := F)) 𝒱₀ false Set.univ := fun t => by
  rw [fin_N0 t]
  rw [bigSep_W, bigSep_W]
  show iprop(Φ₀ m c ∗ (dats m 0 c).owesAt false t0_0.castSucc ∗ emp) ⊢ wp frame (wpE (defs₀ (F := F)) 𝒱₀ (c : Thread nD τ) none) Set.univ
    (bodyP (F := F)) (fun _ => iprop(Φ₁ m c ∗ (dats m 0 c).owesAt false t0_0.succ ∗ emp))
  refine BIBase.Entails.trans ?_ (wp_fupd _ _ _ _ _)
  unfold Φ₀ start linear rest
  iintro ⟨⟨⟨⟨%K, #HR⟩, ⟨Hat, Ht, Hc, Ho⟩, Hcr, HX, HW, %f2, HV⟩, Hb⟩, HO, -⟩
  ihave HO : owesE c (O₀ c) $$ [HO]
  · unfold Dat.owesAt Pipeline.owesWithin
    icases HO with ⟨%V, %hV, HO⟩
    iapply (owesE_intro c (O₀ c) V)
    iexact HO
  ihave Hat := (cells17' (F := F) c (fun k => atPos ER (kcell (c, k)) 0 ∅ 0)).1 $$ Hat
  icases Hat with ⟨Hat, Hidle⟩
  ihave Hat := (Entails.of_eq (show busy c (fun k => (atPos ER (kcell (c, k)) 0 ∅ 0 : sProp 𝕄)) = ats c 0 from rfl)) $$ Hat
  iapply (runBody (X₀ m) (W₀ m) K c f2) $$ HR HO HX HW HV Hb Hc Ho Ht Hcr Hat
  iintro ⟨HO, HX, HW, HV, Hb, Hc, Ho, Hat⟩
  imod (close_all (X₀ m) (W₀ m) K c) $$ HR Hat Hidle with Hz
  imodintro
  isplitl [HX HW HV Hb Hc Ho Hz]
  · unfold Φ₁ final
    isplitl [HX HW HV]
    · isplitl [HX]; · iexact HX
      isplitl [HW]; · iexact HW
      iexact HV
    isplitl [Hb]; · iexact Hb
    isplitl [Hc]; · iexact Hc
    isplitl [Ho]; · iexact Ho
    iexact Hz
  isplitl
  · ihave HO := (Entails.of_eq (show (owesE c 0 : sProp 𝕄) = iprop(∃ V, owes (c : Thread nD τ) 0 V) from rfl)) $$ HO
    icases HO with ⟨%V, HO⟩
    unfold Dat.owesAt Pipeline.owesWithin
    iexists V
    isplitr
    · ipureintro; exact fun _ _ => Or.inl trivial
    iexact HO
  · iempintro

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (X₀ m) (W₀ m) c)
      ⊢ |={Set.univ}=> iprop(start m c ∗ emp) := by
  rw [Pipeline.unscopedRestP_none, unscopedRest0_eq]
  unfold G' recs
  iintro ⟨⟨HX, HW, HV⟩, #Hlev, Hcr, -, ⟨%K, ⟨#HI, #HR⟩, Hl⟩⟩
  ihave Hc := (creds_intro (F := F) c) $$ Hcr
  imodintro
  unfold start
  isplitl
  · isplitr
    · iexists K
      unfold records
      isplitr; · iexact HI
      isplitr; · iexact HR
      iexact Hlev
    isplitl [Hl]; · iexact Hl
    isplitl [Hc]; · iexact Hc
    isplitl [HX]; · iexact HX
    isplitl [HW]; · iexact HW
    iexists _; iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop((final m c ∗ unscopedSems0 c) ∗ Pipeline.ownSems0 osem c ∗ Pipeline.scopedRest cfg0.spec c) := by
  rw [show (dats m 0 c).Φ (Fin.last cfg0.N) = Φ₁ m c from rfl, scopedRest0_eq]
  unfold Φ₁
  iintro ⟨Hf, Hb, Hz⟩
  ihave Hz := (sems_out (F := F) c) $$ Hz
  icases Hz with ⟨Hu, Hz⟩
  isplitl [Hf Hu]
  · isplitl [Hf] <;> iassumption
  isplitl [Hz]; · iexact Hz
  unfold bufs
  iexact Hb

theorem waits (c : Dev nD) : (levAts L lv : sProp 𝕄) ⊢ Pipeline.cellsWaits cfgs (dats m) false 0 c :=
  Pipeline.cellsWaits_intro cfgs (dats m) false 0 c fun w _ _ => (no_windows w).elim

/-- What a final memory holds on device `c`. -/
def Ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outAll (X₀ m) (W₀ m) c

theorem read_final (c : Dev nD) (s' : Phys nD τ sig (Elt F)) :
    iprop((final m c ∗ unscopedSems0 c) ∗ emp ∗ SI s')
      ⊢ |={Set.univ}=> iprop(⌜Ends m c s'.mem ∧ ∀ sm : SemLoc sig, sm.isScoped .tc = false → s'.mem.sem ((c.tc : Thread nD τ), sm) = 0⌝ ∗ SI s') := by
  unfold final
  iintro ⟨⟨⟨HX, HW, HV⟩, Hu⟩, -, HSI⟩
  icombine HSI HX gives %h1
  icombine HSI HW gives %h2
  icombine HSI HV gives %h3
  imod (Pipeline.unscopedSems0_read (X := unscopedSems0 c) (c := c) fupd_intro s') $$ [Hu HSI] with ⟨%h4, HSI⟩
  · isplitl [Hu] <;> iassumption
  imodintro
  isplitr
  · ipureintro
    exact ⟨⟨Buf.eq_of_forall_mem_univ h1, Buf.eq_of_forall_mem_univ h2, Buf.eq_of_forall_mem_univ h3⟩, h4⟩
  iexact HSI

/-! ## The run -/

set_option maxRecDepth 8000 in
/-- From any memory with zero counters every weakly fair run of the program on the four devices ends, with every argument as
    it was, the result of each device as written out by `outAll`, and every counter at zero. -/
theorem run_main : θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => (no_windows w).elim) (harr := arr_whole0) (hstage := stage_whole0) (hshare := fun _ w => (no_windows w).elim)
    (hdistinct := winFacts0.arr_inj)
    (O₀ := O₀) (howed₀ := fun _ => rfl) (howedN := fun _ => rfl)
    (L := L) (lv := lv) (hL := L_of_ne) (hwaits := waits m)
    (G := G (X₀ m) (W₀ m)) (G' := G' (X₀ m) (W₀ m)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring (X₀ m) (W₀ m)) $$ HX with HG
      imodintro
      isplitl [HP] <;> iassumption)
    (hglob := glob (X₀ m) (W₀ m))
    (hA := fun _ w => (no_windows w).elim) (hpf := fun _ k => k.elim0)
    (X := start m) (Y := fun c => iprop(final m c ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := fun c s' => read_final m c s')
    (hQ := fun _ h hs => ⟨fun c => (h c).2.2.1, sem_eq_zero hs fun c => (h c).2.2.2⟩)

end Cert.QK

end
-- ==== Proof.Numbers.lean ====
/-
Numbers: the quantiser at the extended reals. What is clipped to ±127 after the rounding is an integer, so a word of eight
bits holds it exactly; dividing by the scale is multiplying by its inverse, except at a scale of zero, where the result is
zero either way.
-/
module

public import Idealize.ShloMosaic.PureOps.Ideal
public import Idealize.ShloMosaic.PureOps.Ideal.Laws

@[expose] public section

noncomputable section

namespace Cert.QK

open Idealize.ShloMosaic

theorem bits_127 : Ideal.ofBits .f32 0x42FE0000#32 = ((127 : ℝ) : EReal) := by
  simp [Ideal.ofBits, Ideal.ieee]
  rw [← EReal.coe_mul]; norm_num
theorem bits_neg_127 : Ideal.ofBits .f32 0xC2FE0000#32 = ((-127 : ℝ) : EReal) := by
  simp [Ideal.ofBits, Ideal.ieee]
  rw [← EReal.coe_mul]; norm_num
theorem bits_bot : Ideal.ofBits .f32 0xFF800000#32 = ⊥ := by
  simp [Ideal.ofBits, Ideal.ieee]

/-- What lies above every value lies above the largest of them, and the other way round. -/
theorem fold_le {ι : Type} [Fintype ι] (f : ι → EReal) (b : EReal) : Finset.fold max ⊥ f Finset.univ ≤ b ↔ ∀ i, f i ≤ b :=
  (Finset.fold_max_le _).trans ⟨fun h i => h.2 i (Finset.mem_univ i), fun h => ⟨bot_le, fun i _ => h i⟩⟩

/-- The same among the values at some of the places. -/
theorem fold_filter_le {ι : Type} [Fintype ι] (p : ι → Prop) [DecidablePred p] (hp : ∀ i, p i) (f : ι → EReal) (b : EReal) :
    Finset.fold max ⊥ f (Finset.univ.filter p) ≤ b ↔ ∀ i, f i ≤ b :=
  (Finset.fold_max_le _).trans
    ⟨fun h i => h.2 i (Finset.mem_filter.2 ⟨Finset.mem_univ i, hp i⟩), fun h => ⟨bot_le, fun i _ => h i⟩⟩

/-- Rounded, then clipped to ±127. -/
def clip (z : EReal) : EReal := min ((127 : ℝ) : EReal) (max ((-127 : ℝ) : EReal) (Ideal.liftRound Ideal.roundHalfEven z))

/-- It is an integer between the two. -/
theorem clip_integer (z : EReal) : ∃ t : ℤ, -127 ≤ t ∧ t ≤ 127 ∧ clip z = ((t : ℝ) : EReal) := by
  induction z using EReal.rec with
  | bot =>
    refine ⟨-127, by decide, by decide, ?_⟩
    show min ((127 : ℝ) : EReal) (max ((-127 : ℝ) : EReal) ⊥) = _
    rw [max_eq_left bot_le, min_eq_right (EReal.coe_le_coe_iff.2 (by norm_num))]
    push_cast
    rfl
  | top =>
    refine ⟨127, by decide, by decide, ?_⟩
    show min ((127 : ℝ) : EReal) (max ((-127 : ℝ) : EReal) ⊤) = _
    rw [max_eq_right le_top, min_eq_left le_top]
    push_cast
    rfl
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [← EReal.coe_strictMono.monotone.map_max, ← EReal.coe_strictMono.monotone.map_min]
    push_cast
    rfl

/-- A word of eight bits holds it. -/
theorem word_clip (z : EReal) : (((Ideal.fptosi 8 (clip z)).toInt : ℝ) : EReal) = clip z := by
  obtain ⟨t, h1, h2, h⟩ := clip_integer z
  have e : Ideal.fptosi 8 (clip z) = BitVec.ofInt 8 t := by
    rw [h]
    unfold Ideal.fptosi
    congr 1
    show max _ (min _ (if (0 : ℝ) ≤ (t : ℝ) then ⌊(t : ℝ)⌋ else ⌈(t : ℝ)⌉)) = t
    rw [Int.floor_intCast, Int.ceil_intCast, ite_self]
    norm_num
    omega
  rw [e, h, BitVec.toInt_ofInt]
  have : t.bmod (2 ^ 8) = t := by
    rw [Int.bmod_eq_of_le] <;> omega
  rw [this]

/-- Dividing by the scale is multiplying by its inverse. -/
theorem div_scale (y g : EReal) (h : g ≠ 0) :
    Ideal.div y (Ideal.div g ((127 : ℝ) : EReal)) = y * Ideal.div ((127 : ℝ) : EReal) g := by
  have h127 : ((127 : ℝ) : EReal) ≠ 0 := by
    rw [Ne, EReal.coe_eq_zero]; norm_num
  have hd : Ideal.div g ((127 : ℝ) : EReal) = g * ((127 : ℝ) : EReal)⁻¹ := by
    unfold Ideal.div; rw [if_neg h127]
  have hd' : Ideal.div ((127 : ℝ) : EReal) g = ((127 : ℝ) : EReal) * g⁻¹ := by
    unfold Ideal.div; rw [if_neg h]
  have hi : ((127 : ℝ) : EReal)⁻¹ ≠ 0 := by
    rw [← EReal.coe_inv, Ne, EReal.coe_eq_zero]; norm_num
  have hn : g * ((127 : ℝ) : EReal)⁻¹ ≠ 0 := mul_ne_zero h hi
  rw [hd, hd']
  unfold Ideal.div
  rw [if_neg hn, EReal.mul_inv, EReal.inv_inv (EReal.coe_ne_bot _) (EReal.coe_ne_top _), mul_comm g⁻¹]

/-- The dequantised value, divided by the scale first or multiplied by its inverse. -/
theorem quantised (y g : EReal) :
    clip (Ideal.div y (Ideal.div g ((127 : ℝ) : EReal))) * Ideal.div g ((127 : ℝ) : EReal)
      = clip (y * Ideal.div ((127 : ℝ) : EReal) g) * Ideal.div g ((127 : ℝ) : EReal) := by
  by_cases h : g = 0
  · have hd : Ideal.div g ((127 : ℝ) : EReal) = 0 := by
      unfold Ideal.div
      rw [if_neg (by rw [EReal.coe_eq_zero]; norm_num), h, zero_mul]
    rw [hd, mul_zero, mul_zero]
  · rw [div_scale y g h]

end Cert.QK

end
-- ==== Proof.Largest.lean ====
/-
Largest: the kernel's rectified product read at a place, and the largest element of all, stated by what lies above it:
first of a chunk, then of a device's product, then of the four devices' products.
-/
module

public import proofs.«01_k».proof.Proof.Values
public import proofs.«01_k».proof.Proof.Numbers
public import Idealize.ShloMosaic.Lib.Pointwise

@[expose] public section

set_option maxRecDepth 16384

noncomputable section

namespace Cert.QK

open Cert.KernelIdeal Cert.KernelIdeal.Gen
open Idealize.ShloMosaic

theorem yc_apply (X : FVec Ideal S1024x4096 .f32) (W : FVec Ideal S4096x2048 .f32) (k : Fin 8) (j : S1024x256.Idx) :
    yc X W k j = max (∑ x : Fin 4096, X (ix2 (j 0) x)
      * W ((Rect.unit (s := S4096x2048) ![0, 256 * k.val] S4096x256.size (inb_wcols k)).emb (ix2 x (j 1)))) 0 := by
  pointwise [yc, k0_pay6, xb, wb, wcols]

/-- A column of a chunk, as a column of the whole. -/
theorem wcols_emb (i : S1024x2048.Idx) (x : Fin 4096) :
    (Rect.unit (s := S4096x2048) ![0, 256 * (chunkOf i).val] S4096x256.size (inb_wcols (chunkOf i))).emb (ix2 x (inChunk i 1))
      = ix2 x (i 1) := by
  funext a
  apply Fin.ext
  match a with
  | ⟨0, _⟩ => show 0 + 1 * x.val = x.val; omega
  | ⟨1, _⟩ => show 256 * ((i 1).val / 256) + 1 * ((i 1).val % 256) = (i 1).val; omega

/-- The rectified product at a place. -/
theorem yAll_apply (X : FVec Ideal S1024x4096 .f32) (W : FVec Ideal S4096x2048 .f32) (i : S1024x2048.Idx) :
    yAll X W i = max (∑ x : Fin 4096, X (ix2 (i 0) x) * W (ix2 x (i 1))) 0 := by
  show yc X W (chunkOf i) (inChunk i) = _
  rw [yc_apply]
  congr 1
  refine Finset.sum_congr rfl fun x _ => ?_
  rw [wcols_emb]
  rfl

theorem cm_fold (X : FVec Ideal S1024x4096 .f32) (W : FVec Ideal S4096x2048 .f32) (k : Fin 8) :
    cm X W k = Finset.fold max (Ideal.ofBits FTy.f32 0xFF800000#32)
      (fun x : Fin 1024 × Fin 256 => yc X W k (ix2 x.1 x.2)) Finset.univ := by
  unfold cm yc
  pointwise [k0_pay8]

theorem cm_le (X : FVec Ideal S1024x4096 .f32) (W : FVec Ideal S4096x2048 .f32) (k : Fin 8) (b : EReal) :
    cm X W k ≤ b ↔ ∀ j, yc X W k j ≤ b := by
  rw [cm_fold, bits_bot]
  refine (fold_le _ _).trans ⟨fun h j => ?_, fun h k => h _⟩
  have := h (j 0, j 1)
  rw [eq_ix2 j]
  exact this

section
variable {F : FTy → Type} [FloatOps F]

theorem pay34_eq (v : FVec F S1024x4096 .bf16) (w : FVec F S1x4096x256 .bf16) : k0_pay34 v w = k0_pay6 v w := by
  simp only [k0_pay34, k0_pay6]

/-- The last chunk is treated as the others are. -/
theorem pay36_eq (a b c d e f g : F .f32) (v : FVec F S1024x4096 .bf16) (w : FVec F S1x4096x256 .bf16) :
    k0_pay36 a b c d e f g v w = Scalar.maximumf (Scalar.maximumf (Scalar.maximumf (Scalar.maximumf (Scalar.maximumf
      (Scalar.maximumf (Scalar.maximumf a b) c) d) e) f) g) (k0_pay8 v w) := by
  simp only [k0_pay36, k0_pay8, pay34_eq]

theorem lmax_chain (X : FVec F S1024x4096 .f32) (W : FVec F S4096x2048 .f32) :
    lmax X W = Scalar.maximumf (Scalar.maximumf (Scalar.maximumf (Scalar.maximumf (Scalar.maximumf
      (Scalar.maximumf (Scalar.maximumf (cm X W 0) (cm X W 1)) (cm X W 2)) (cm X W 3)) (cm X W 4)) (cm X W 5)) (cm X W 6))
      (cm X W 7) := by
  unfold lmax
  exact pay36_eq _ _ _ _ _ _ _ _ _

end

theorem chain_max (a b c d e f g h : Ideal .f32) :
    Scalar.maximumf (Scalar.maximumf (Scalar.maximumf (Scalar.maximumf (Scalar.maximumf
      (Scalar.maximumf (Scalar.maximumf a b) c) d) e) f) g) h = max (max (max (max (max (max (max a b) c) d) e) f) g) h := by
  simp only [Ideal.scalar_maximumf_def]

theorem lmax_eq (X : FVec Ideal S1024x4096 .f32) (W : FVec Ideal S4096x2048 .f32) :
    lmax X W = max (max (max (max (max (max (max (cm X W 0) (cm X W 1)) (cm X W 2)) (cm X W 3)) (cm X W 4)) (cm X W 5)) (cm X W 6))
      (cm X W 7) :=
  (lmax_chain X W).trans (chain_max _ _ _ _ _ _ _ _)

/-- A place of a chunk, as a place of the whole. -/
def unchunk (k : Fin 8) (j : S1024x256.Idx) : S1024x2048.Idx :=
  ix2 ⟨(j 0).val, (j 0).isLt⟩ ⟨256 * k.val + (j 1).val, by have h : (j 1).val < 256 := (j 1).isLt; omega⟩

theorem chunkOf_unchunk (k : Fin 8) (j : S1024x256.Idx) : chunkOf (unchunk k j) = k := by
  have h : (j 1).val < 256 := (j 1).isLt
  apply Fin.ext
  show (256 * k.val + (j 1).val) / 256 = k.val
  omega

theorem inChunk_unchunk (k : Fin 8) (j : S1024x256.Idx) : inChunk (unchunk k j) = j := by
  have h : (j 1).val < 256 := (j 1).isLt
  funext a
  apply Fin.ext
  match a with
  | ⟨0, _⟩ => rfl
  | ⟨1, _⟩ => show (256 * k.val + (j 1).val) % 256 = (j 1).val; omega

theorem lmax_le (X : FVec Ideal S1024x4096 .f32) (W : FVec Ideal S4096x2048 .f32) (b : EReal) :
    lmax X W ≤ b ↔ ∀ i, yAll X W i ≤ b := by
  rw [lmax_eq]
  simp only [max_le_iff, cm_le]
  constructor
  · rintro ⟨⟨⟨⟨⟨⟨⟨h0, h1⟩, h2⟩, h3⟩, h4⟩, h5⟩, h6⟩, h7⟩ i
    show yc X W (chunkOf i) (inChunk i) ≤ b
    generalize chunkOf i = k
    match k with
    | 0 => exact h0 _
    | 1 => exact h1 _
    | 2 => exact h2 _
    | 3 => exact h3 _
    | 4 => exact h4 _
    | 5 => exact h5 _
    | 6 => exact h6 _
    | 7 => exact h7 _
  · intro h
    have key : ∀ k j, yc X W k j ≤ b := by
      intro k j
      have := h (unchunk k j)
      rw [show yAll X W (unchunk k j) = yc X W (chunkOf (unchunk k j)) (inChunk (unchunk k j)) from rfl,
        chunkOf_unchunk, inChunk_unchunk] at this
      exact this
    exact ⟨⟨⟨⟨⟨⟨⟨key 0, key 1⟩, key 2⟩, key 3⟩, key 4⟩, key 5⟩, key 6⟩, key 7⟩

theorem pay39_fold (A : FVec Ideal S4x8x128 .f32) :
    k0_pay39 (F := Ideal) A = Finset.fold max (Ideal.ofBits FTy.f32 0xFF800000#32) (fun x => A (ix3 (x 1) (x 2) (x 3)))
      (Finset.univ.filter fun i => reduces_S1x4x8x128_S1.drop i = ix1 0) := by
  pointwise [k0_pay39]

theorem one_drop (x : S1x4x8x128.Idx) : reduces_S1x4x8x128_S1.drop x = ix1 0 := by
  funext a
  match a with
  | ⟨0, _⟩ => exact Subsingleton.elim (α := Fin 1) _ _

/-- The largest of all. -/
def top (X : Dev nD → FVec Ideal S1024x4096 .f32) (W : Dev nD → FVec Ideal S4096x2048 .f32) : EReal :=
  k0_pay39 (F := Ideal) (amaxAll X W)

theorem top_le (X : Dev nD → FVec Ideal S1024x4096 .f32) (W : Dev nD → FVec Ideal S4096x2048 .f32) (b : EReal) :
    top X W ≤ b ↔ ∀ s i, yAll (X s) (W s) i ≤ b := by
  unfold top
  rw [pay39_fold, bits_bot]
  refine (fold_filter_le _ (fun x => one_drop x) _ _).trans ⟨fun h s => ?_, fun h x => ?_⟩
  · have := h (fun a => match a with
      | ⟨0, _⟩ => ⟨0, Nat.one_pos⟩
      | ⟨1, _⟩ => ⟨s.val, s.isLt⟩
      | ⟨2, _⟩ => ⟨0, by show 0 < 8; decide⟩
      | ⟨3, _⟩ => ⟨0, by show 0 < 128; decide⟩)
    exact (lmax_le _ _ _).1 this
  · exact (lmax_le _ _ _).2 (h _)

end Cert.QK

end
-- ==== Proof.Reference.lean ====
/-
Reference: the reference's result, read at a place. The rectified product, its largest element (stated by what lies
above it), and the quantised product as the clipped quotient times the scale.
-/
module

public import proofs.«01_k».proof.Proof.Numbers
public import proofs.«01_k».proof.Proof.Gen.ReferenceIdeal.Run
public import Idealize.ShloMosaic.Lib.Pointwise

@[expose] public section

set_option maxRecDepth 16384

noncomputable section

namespace Cert.QK.Ref

open Cert.ReferenceIdeal Cert.ReferenceIdeal.Gen
open Idealize.ShloMosaic

/-- The rectified product. -/
def Y (x : FVec Ideal S4096x4096 .f32) (w : FVec Ideal S4096x2048 .f32) : FVec Ideal S4096x2048 .f32 :=
  maximumf (Host.dotGeneral dot_S4096x4096_S4096x2048_S4096x2048_1_0_0_1_n_n none x w)
    (broadcastInDim S4096x2048 ![] bcast_S_S4096x2048 (constant S_ .f32 0x00000000#32))

/-- Its largest element in absolute value. -/
def G (x : FVec Ideal S4096x4096 .f32) (w : FVec Ideal S4096x2048 .f32) : FVec Ideal S_ .f32 :=
  Host.reduce FloatOps.maximumf (Host.absf (Y x w)) (constant S_ .f32 0xFF800000#32) reducesTo_S4096x2048_S_d0_1 h_S_

/-- The scale. -/
def S (x : FVec Ideal S4096x4096 .f32) (w : FVec Ideal S4096x2048 .f32) : FVec Ideal S_ .f32 :=
  Host.divf (G x w) (constant S_ .f32 0x42FE0000#32)

/-- The result. -/
def out (x : FVec Ideal S4096x4096 .f32) (w : FVec Ideal S4096x2048 .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (Y x w) (broadcastInDim S4096x2048 ![] bcast_S_S4096x2048 (S x w))))))
    (broadcastInDim S4096x2048 ![] bcast_S_S4096x2048 (S x w))

theorem Y_apply (x : FVec Ideal S4096x4096 .f32) (w : FVec Ideal S4096x2048 .f32) (i : S4096x2048.Idx) :
    Y x w i = max (∑ k : Fin 4096, x (ix2 (i 0) k) * w (ix2 k (i 1))) 0 := by
  pointwise [Y]

theorem Y_nonneg (x : FVec Ideal S4096x4096 .f32) (w : FVec Ideal S4096x2048 .f32) (i : S4096x2048.Idx) : 0 ≤ Y x w i := by
  rw [Y_apply]; exact le_max_right _ _

theorem G_fold (x : FVec Ideal S4096x4096 .f32) (w : FVec Ideal S4096x2048 .f32) (z : S_.Idx) :
    G x w z = Finset.fold max (Ideal.ofBits FTy.f32 0xFF800000#32)
      (fun k : Fin 4096 × Fin 2048 => FloatOps.absf (F := Ideal) (φ := .f32) (Y x w (ix2 k.1 k.2))) Finset.univ := by
  pointwise [G]

/-- What lies above every element of the product lies above the largest, and the other way round. -/
theorem G_le (x : FVec Ideal S4096x4096 .f32) (w : FVec Ideal S4096x2048 .f32) (z : S_.Idx) (b : EReal) :
    G x w z ≤ b ↔ ∀ i, Y x w i ≤ b := by
  have ha : ∀ k : Fin 4096 × Fin 2048, FloatOps.absf (F := Ideal) (φ := .f32) (Y x w (ix2 k.1 k.2)) = Y x w (ix2 k.1 k.2) := by
    intro k
    show max (Y x w (ix2 k.1 k.2)) (-(Y x w (ix2 k.1 k.2))) = _
    refine max_eq_left (le_trans ?_ (Y_nonneg x w _))
    rw [EReal.neg_le, neg_zero]
    exact Y_nonneg x w _
  rw [G_fold, bits_bot]
  refine (fold_le _ _).trans ⟨fun h i => ?_, fun h k => ?_⟩
  · have := h (i 0, i 1)
    rw [ha] at this
    rw [eq_ix2 i]
    exact this
  · rw [ha]
    exact h _

theorem S_apply (x : FVec Ideal S4096x4096 .f32) (w : FVec Ideal S4096x2048 .f32) (z : S_.Idx) :
    S x w z = Ideal.div (G x w z) ((127 : ℝ) : EReal) := by
  rw [← bits_127]
  rfl

/-- The result at a place. -/
theorem out_apply (x : FVec Ideal S4096x4096 .f32) (w : FVec Ideal S4096x2048 .f32) (i : S4096x2048.Idx) :
    ∃ z : S_.Idx, out x w i = clip (Ideal.div (Y x w i) (Ideal.div (G x w z) ((127 : ℝ) : EReal)))
      * Ideal.div (G x w z) ((127 : ℝ) : EReal) := by
  refine ⟨ix0, ?_⟩
  rw [← S_apply]
  unfold clip
  rw [← bits_127, ← bits_neg_127]
  pointwise [out]
  rfl

end Cert.QK.Ref

end
-- ==== Proof.Equation.lean ====
/-
Equation: what the kernel leaves on a device is its block of columns of the reference's result.
-/
module

public import proofs.«01_k».proof.Proof.Largest
public import proofs.«01_k».proof.Proof.Reference
public import Idealize.ShloMosaic.Lib.Layout

@[expose] public section

set_option maxRecDepth 16384

noncomputable section

namespace Cert.QK

open Cert.KernelIdeal Cert.KernelIdeal.Gen
open Idealize.ShloMosaic

theorem pay47_apply (v s : Ideal .f32) (y : FVec Ideal S1024x512 .f32) (j : S1x1024x512.Idx) :
    k0_pay47 (F := Ideal) v s y j = clip (y (ix2 (j 1) (j 2)) * v) * s := by
  unfold clip
  rw [← bits_127, ← bits_neg_127]
  pointwise [k0_pay47]

theorem pay42_apply (v : Ideal .f32) (y : FVec Ideal S1024x512 .f32) (j : S1x1024x512.Idx) :
    k0_pay42 (F := Ideal) v y j = Ideal.fptosi 8 (clip (y (ix2 (j 1) (j 2)) * v)) := by
  unfold clip
  rw [← bits_127, ← bits_neg_127]
  pointwise [k0_pay42]
  rfl

theorem pay48_apply (s : Ideal .f32) (q : IVec S1x1024x512 8) (j : S1x1024x512.Idx) :
    k0_pay48 (F := Ideal) s q j = (((q j).toInt : ℝ) : EReal) * s := by
  pointwise [k0_pay48]
  rfl

theorem inv_eq (X : Dev nD → FVec Ideal S1024x4096 .f32) (W : Dev nD → FVec Ideal S4096x2048 .f32) :
    inv X W = Ideal.div ((127 : ℝ) : EReal) (top X W) := by
  rw [← bits_127]
  unfold inv k0_pay40 top
  exact Ideal.scalar_divf_def ..

theorem scl_eq (X : Dev nD → FVec Ideal S1024x4096 .f32) (W : Dev nD → FVec Ideal S4096x2048 .f32) :
    scl X W = Ideal.div (top X W) ((127 : ℝ) : EReal) := by
  rw [← bits_127]
  rfl

/-- The word that travels changes nothing: every row block is the clipped product times the scale. -/
theorem oblk_apply (X : Dev nD → FVec Ideal S1024x4096 .f32) (W : Dev nD → FVec Ideal S4096x2048 .f32) (p s : Dev nD) (j : S1x1024x512.Idx) :
    oblk X W p s j = clip (yblk X W s p (ix2 (j 1) (j 2)) * Ideal.div ((127 : ℝ) : EReal) (top X W))
      * Ideal.div (top X W) ((127 : ℝ) : EReal) := by
  unfold oblk
  by_cases h : s = p
  · rw [if_pos h, pay47_apply, inv_eq, scl_eq, h]
  · rw [if_neg h, pay48_apply, scl_eq]
    unfold qblk
    rw [pay42_apply, word_clip, inv_eq]

section
variable (x : FVec Ideal (⟨2, ![4096, 4096]⟩ : Shape) .f32) (w : FVec Ideal (⟨2, ![4096, 2048]⟩ : Shape) .f32)
variable (X : Dev nD → FVec Ideal S1024x4096 .f32) (W : Dev nD → FVec Ideal S4096x2048 .f32)

/-- Row `r` of device `s`'s rows, as a row of the whole. -/
def row (s : Dev nD) (r : Fin 1024) : Fin 4096 :=
  ⟨s.val * 1024 + r.val, by have h : s.val < 4 := s.isLt; omega⟩

/-- The devices hold the row blocks of `x`, and each of them `w`. -/
structure Holds : Prop where
  lhs : ∀ s r k, X s (ix2 r k) = x (ix2 (row s r) k)
  rhs : ∀ s, W s = w

variable {x w X W}

/-- A device's product is its rows of the reference's. -/
theorem product (h : Holds x w X W) (s : Dev nD) (r : Fin 1024) (c : Fin 2048) :
    yAll (X s) (W s) (ix2 r c) = Ref.Y x w (ix2 (row s r) c) := by
  rw [yAll_apply, Ref.Y_apply, h.rhs]
  congr 1
  refine Finset.sum_congr rfl fun k _ => ?_
  congr 1
  exact h.lhs s r k

theorem row_split (i : Fin 4096) : row ⟨i.val / 1024, by show _ < 4; omega⟩ ⟨i.val % 1024, Nat.mod_lt _ (by decide)⟩ = i := by
  apply Fin.ext
  show i.val / 1024 * 1024 + i.val % 1024 = i.val
  omega

/-- The largest element of the four devices' products is the largest of the reference's. -/
theorem top_eq (h : Holds x w X W) (z) : top X W = Ref.G x w z := by
  have key : ∀ b, top X W ≤ b ↔ Ref.G x w z ≤ b := by
    intro b
    rw [top_le, Ref.G_le]
    constructor
    · intro H i
      have h0 : (i 0).val < 4096 := (i 0).isLt
      have e : ix2 (row ⟨(i 0).val / 1024, by show _ < 4; omega⟩ ⟨(i 0).val % 1024, Nat.mod_lt _ (by decide)⟩) (i 1) = i := by
        funext a
        apply Fin.ext
        match a with
        | ⟨0, _⟩ => show (i 0).val / 1024 * 1024 + (i 0).val % 1024 = (i 0).val; omega
        | ⟨1, _⟩ => rfl
      exact le_of_eq_of_le ((congrArg (Ref.Y x w) e).symm.trans (product h _ _ _).symm) (H _ _)
    · intro H s i
      exact le_of_eq_of_le ((congrArg (yAll (X s) (W s)) (eq_ix2 i)).trans (product h s (i 0) (i 1))) (H _)
  exact le_antisymm ((key _).2 le_rfl) ((key _).1 le_rfl)

/-- A device's result at a place. -/
theorem outAll_apply (h : Holds x w X W) (p : Dev nD) (i : S4096x512.Idx) :
    outAll X W p i = Ref.out x w (ix2 (i 0) ⟨p.val * 512 + (i 1).val, by
      have h : (i 1).val < 512 := (i 1).isLt
      have h' : p.val < 4 := p.isLt
      omega⟩) := by
  obtain ⟨z, hz⟩ := Ref.out_apply x w (ix2 (i 0) ⟨p.val * 512 + (i 1).val, by
      have h : (i 1).val < 512 := (i 1).isLt
      have h' : p.val < 4 := p.isLt
      omega⟩)
  rw [hz]
  show oblk X W p (rowsOf i) (inRows i) = _
  rw [oblk_apply, top_eq h z, quantised]
  congr 3
  have e : (Rect.unit (s := S1024x2048) ![0, 512 * p.val] S1024x512.size (inb_yblk p)).emb (ix2 (inRows i 1) (inRows i 2))
      = ix2 ⟨(i 0).val % 1024, Nat.mod_lt _ (by decide)⟩ ⟨p.val * 512 + (i 1).val, by
      have h : (i 1).val < 512 := (i 1).isLt
      have h' : p.val < 4 := p.isLt
      omega⟩ := by
    funext a
    apply Fin.ext
    match a with
    | ⟨0, _⟩ => show 0 + 1 * ((i 0).val % 1024) = (i 0).val % 1024; omega
    | ⟨1, _⟩ => show 512 * p.val + 1 * (i 1).val = p.val * 512 + (i 1).val; omega
  show yAll (X (rowsOf i)) (W (rowsOf i)) _ = _
  rw [e, product h]
  congr 2
  exact row_split (i 0)

/-- The same of the whole block. -/
theorem outAll_block (h : Holds x w X W) (p : Dev nD) :
    outAll X W p = Layout.block (⟨2, ![4096, 512]⟩ : Shape) (⟨2, ![4096, 2048]⟩ : Shape) 1 4 p (Ref.out x w) := by
  funext i
  rw [outAll_apply h, Layout.block_apply]
  congr 1
  funext a
  match a with
  | ⟨0, _⟩ => rfl
  | ⟨1, _⟩ => rfl

theorem holds_of (hx : ∀ c, X c = Layout.block (⟨2, ![1024, 4096]⟩ : Shape) (⟨2, ![4096, 4096]⟩ : Shape) 0 4 c x) (hw : ∀ c, W c = w) :
    Holds x w X W where
  lhs := by
    intro s r k
    rw [hx s, Layout.block_apply]
    congr 1
    funext a
    match a with
    | ⟨0, _⟩ => rfl
    | ⟨1, _⟩ => rfl
  rhs := hw

end

end Cert.QK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- The two kernels are one text, and the run is proved at any float values. -/
theorem frame_kernel : Cert.quiescent_Kernel := fun m ρ _ =>
  (θ_run Cert.KernelIdeal.defs _ _).mono (fun _ h => ⟨fun c => ⟨(h.1 c).1, (h.1 c).2.1⟩, h.2⟩) (Cert.QK.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.QK.run_main (F := Ideal) m ρ)

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Every device ends with its block of columns of the reference's result. -/
theorem values : Cert.algebraic_KernelIdeal_ReferenceIdeal := fun m ρ m' ρ' _ hargs =>
  ⟨Cert.QK.Ref.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.QK.outAll_block (Cert.QK.holds_of (fun d => (hargs d).1) (fun d => (hargs d).2)) c),
        (h.1 c).1, (h.1 c).2.1⟩)
      (Cert.QK.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, values⟩

end Cert.Proof

end
